-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x128 : Shape := ⟨2, ![100000, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x256 : Shape := ⟨2, ![1, 256]⟩
abbrev S1x128 : Shape := ⟨2, ![1, 128]⟩
abbrev S4x5000x128 : Shape := ⟨3, ![4, 5000, 128]⟩
abbrev S2x4 : Shape := ⟨2, ![2, 4]⟩
abbrev S6x5000x128 : Shape := ⟨3, ![6, 5000, 128]⟩
abbrev S6 : Shape := ⟨1, ![6]⟩
abbrev S1 : Shape := ⟨1, ![1]⟩
abbrev S_ : Shape := ⟨0, ![]⟩
abbrev S1x5000x128 : Shape := ⟨3, ![1, 5000, 128]⟩
abbrev S5000x128 : Shape := ⟨2, ![5000, 128]⟩
abbrev S1x1 : Shape := ⟨2, ![1, 1]⟩
abbrev S5000x256 : Shape := ⟨2, ![5000, 256]⟩

abbrev nBuf : Space → Nat
  | .hbm => 8
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S128x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S1x256, .f32⟩
  | .hbm, ⟨6, _⟩ => ⟨S1x128, .f32⟩
  | .hbm, ⟨7, _⟩ => ⟨S100000x128, .f32⟩
  | .local _ .vmem, ⟨0, _⟩ => ⟨S128x256, .f32⟩
  | .local _ .vmem, ⟨1, _⟩ => ⟨S1x256, .f32⟩
  | .local _ .vmem, ⟨2, _⟩ => ⟨S256x128, .f32⟩
  | .local _ .vmem, ⟨3, _⟩ => ⟨S1x128, .f32⟩
  | .local _ .vmem, ⟨4, _⟩ => ⟨S4x5000x128, .f32⟩
  | .local _ .vmem, ⟨5, _⟩ => ⟨S4x5000x128, .f32⟩
  | .local _ .vmem, ⟨6, _⟩ => ⟨S6x5000x128, .f32⟩
  | .local _ .vmem, ⟨7, _⟩ => ⟨S6x5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scoped0 : Ref sig .tc := ⟨.vmem, 6, rfl⟩
abbrev cc0_scoped2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

def k0_off1 : Fin 1 → Nat :=
  let c0_i32_83_r0 : BitVec 32 := 0#32
  let c6_i32_r0 : BitVec 32 := 6#32
  let v81_r0 : BitVec 32 := Scalar.remui c0_i32_83_r0 c6_i32_r0
  ![v81_r0.toNat]
def k0_off2 : Fin 3 → Nat :=
  let c0_i32_83_r0 : BitVec 32 := 0#32
  let c6_i32_r0 : BitVec 32 := 6#32
  let v81_r0 : BitVec 32 := Scalar.remui c0_i32_83_r0 c6_i32_r0
  let c0_i32_84_r0 : BitVec 32 := 0#32
  let c0_i32_85_r0 : BitVec 32 := 0#32
  ![v81_r0.toNat, 0, 0]
def k0_cond1 : BitVec 1 :=
  let true_98_r0 : BitVec 1 := 1#1
  let true_53_r0 : BitVec 1 := 1#1
  let c1_i32_55_r0 : BitVec 32 := 1#32
  let c0_i32_54_r0 : BitVec 32 := 0#32
  let v52_r0 : BitVec 32 := Scalar.select true_53_r0 c1_i32_55_r0 c0_i32_54_r0
  let c10_i32_r0 : BitVec 32 := 10#32
  let v53_r0 : BitVec 1 := Scalar.cmpi .eq v52_r0 c10_i32_r0
  let c0_i32_56_r0 : BitVec 32 := 0#32
  let v54_r0 : BitVec 32 := Scalar.select v53_r0 c0_i32_56_r0 v52_r0
  let c0_i32_57_r0 : BitVec 32 := 0#32
  let v55_r0 : BitVec 32 := Scalar.addi v54_r0 c0_i32_57_r0
  let c0_i32_97_r0 : BitVec 32 := 0#32
  let v95_r0 : BitVec 1 := Scalar.cmpi .ne v55_r0 c0_i32_97_r0
  let v96_r0 : BitVec 1 := Scalar.andi true_98_r0 v95_r0
  let true_99_r0 : BitVec 1 := 1#1
  let v97_r0 : BitVec 1 := Scalar.andi v96_r0 true_99_r0
  let v98_r0 : BitVec 32 := Scalar.extui v97_r0
  let c0_i32_100_r0 : BitVec 32 := 0#32
  let v99_r0 : BitVec 1 := Scalar.cmpi .ne v98_r0 c0_i32_100_r0
  v99_r0

def k0_off3 : Fin 1 → Nat :=
  let c0_i32_88_r0 : BitVec 32 := 0#32
  let c1_i32_89_r0 : BitVec 32 := 1#32
  let v87_r0 : BitVec 32 := Scalar.addi c0_i32_88_r0 c1_i32_89_r0
  let c6_i32_182_r0 : BitVec 32 := 6#32
  let v197_r0 : BitVec 32 := Scalar.remui v87_r0 c6_i32_182_r0
  ![v197_r0.toNat]
def k0_off4 : Fin 3 → Nat :=
  let c0_i32_88_r0 : BitVec 32 := 0#32
  let c1_i32_89_r0 : BitVec 32 := 1#32
  let v87_r0 : BitVec 32 := Scalar.addi c0_i32_88_r0 c1_i32_89_r0
  let c6_i32_182_r0 : BitVec 32 := 6#32
  let v197_r0 : BitVec 32 := Scalar.remui v87_r0 c6_i32_182_r0
  let c0_i32_183_r0 : BitVec 32 := 0#32
  let c0_i32_184_r0 : BitVec 32 := 0#32
  ![v197_r0.toNat, 0, 0]
def k0_off5 : Fin 2 → Nat :=
  let c5000_i32_r0 : BitVec 32 := 5000#32
  let true_53_r0 : BitVec 1 := 1#1
  let c1_i32_55_r0 : BitVec 32 := 1#32
  let c0_i32_54_r0 : BitVec 32 := 0#32
  let v52_r0 : BitVec 32 := Scalar.select true_53_r0 c1_i32_55_r0 c0_i32_54_r0
  let c10_i32_r0 : BitVec 32 := 10#32
  let v53_r0 : BitVec 1 := Scalar.cmpi .eq v52_r0 c10_i32_r0
  let c0_i32_56_r0 : BitVec 32 := 0#32
  let v54_r0 : BitVec 32 := Scalar.select v53_r0 c0_i32_56_r0 v52_r0
  let c0_i32_57_r0 : BitVec 32 := 0#32
  let v55_r0 : BitVec 32 := Scalar.addi v54_r0 c0_i32_57_r0
  let v198_r0 : BitVec 32 := Scalar.muli c5000_i32_r0 v55_r0
  let c0_i32_185_r0 : BitVec 32 := 0#32
  ![v198_r0.toNat, 0]
def k0_cond2 : BitVec 1 :=
  let true_104_r0 : BitVec 1 := 1#1
  let c10_i32_102_r0 : BitVec 32 := 10#32
  let true_53_r0 : BitVec 1 := 1#1
  let c1_i32_55_r0 : BitVec 32 := 1#32
  let c0_i32_54_r0 : BitVec 32 := 0#32
  let v52_r0 : BitVec 32 := Scalar.select true_53_r0 c1_i32_55_r0 c0_i32_54_r0
  let c10_i32_r0 : BitVec 32 := 10#32
  let v53_r0 : BitVec 1 := Scalar.cmpi .eq v52_r0 c10_i32_r0
  let c0_i32_56_r0 : BitVec 32 := 0#32
  let v54_r0 : BitVec 32 := Scalar.select v53_r0 c0_i32_56_r0 v52_r0
  let c0_i32_57_r0 : BitVec 32 := 0#32
  let v55_r0 : BitVec 32 := Scalar.addi v54_r0 c0_i32_57_r0
  let v102_r0 : BitVec 32 := Scalar.addi c10_i32_102_r0 v55_r0
  let c10_i32_103_r0 : BitVec 32 := 10#32
  let v103_r0 : BitVec 1 := Scalar.cmpi .ne v102_r0 c10_i32_103_r0
  let v104_r0 : BitVec 1 := Scalar.andi true_104_r0 v103_r0
  let true_105_r0 : BitVec 1 := 1#1
  let v105_r0 : BitVec 1 := Scalar.andi v104_r0 true_105_r0
  let v106_r0 : BitVec 32 := Scalar.extui v105_r0
  let c0_i32_106_r0 : BitVec 32 := 0#32
  let v107_r0 : BitVec 1 := Scalar.cmpi .ne v106_r0 c0_i32_106_r0
  v107_r0

def k0_off6 : Fin 1 → Nat :=
  let c0_i32_95_r0 : BitVec 32 := 0#32
  let c1_i32_96_r0 : BitVec 32 := 1#32
  let v94_r0 : BitVec 32 := Scalar.addi c0_i32_95_r0 c1_i32_96_r0
  let c6_i32_182_r0 : BitVec 32 := 6#32
  let v197_r0 : BitVec 32 := Scalar.remui v94_r0 c6_i32_182_r0
  ![v197_r0.toNat]
def k0_off7 : Fin 3 → Nat :=
  let c0_i32_95_r0 : BitVec 32 := 0#32
  let c1_i32_96_r0 : BitVec 32 := 1#32
  let v94_r0 : BitVec 32 := Scalar.addi c0_i32_95_r0 c1_i32_96_r0
  let c6_i32_182_r0 : BitVec 32 := 6#32
  let v197_r0 : BitVec 32 := Scalar.remui v94_r0 c6_i32_182_r0
  let c0_i32_184_r0 : BitVec 32 := 0#32
  let c0_i32_185_r0 : BitVec 32 := 0#32
  ![v197_r0.toNat, 0, 0]
def k0_off8 : Fin 2 → Nat :=
  let c5000_i32_r0 : BitVec 32 := 5000#32
  let c10_i32_183_r0 : BitVec 32 := 10#32
  let true_53_r0 : BitVec 1 := 1#1
  let c1_i32_55_r0 : BitVec 32 := 1#32
  let c0_i32_54_r0 : BitVec 32 := 0#32
  let v52_r0 : BitVec 32 := Scalar.select true_53_r0 c1_i32_55_r0 c0_i32_54_r0
  let c10_i32_r0 : BitVec 32 := 10#32
  let v53_r0 : BitVec 1 := Scalar.cmpi .eq v52_r0 c10_i32_r0
  let c0_i32_56_r0 : BitVec 32 := 0#32
  let v54_r0 : BitVec 32 := Scalar.select v53_r0 c0_i32_56_r0 v52_r0
  let c0_i32_57_r0 : BitVec 32 := 0#32
  let v55_r0 : BitVec 32 := Scalar.addi v54_r0 c0_i32_57_r0
  let v198_r0 : BitVec 32 := Scalar.addi c10_i32_183_r0 v55_r0
  let v199_r0 : BitVec 32 := Scalar.muli c5000_i32_r0 v198_r0
  let c0_i32_186_r0 : BitVec 32 := 0#32
  ![v199_r0.toNat, 0]
def k0_cond3 : BitVec 1 :=
  let true_108_r0 : BitVec 1 := 1#1
  let true_59_r0 : BitVec 1 := 1#1
  let true_53_r0 : BitVec 1 := 1#1
  let c1_i32_55_r0 : BitVec 32 := 1#32
  let c0_i32_54_r0 : BitVec 32 := 0#32
  let v52_r0 : BitVec 32 := Scalar.select true_53_r0 c1_i32_55_r0 c0_i32_54_r0
  let c10_i32_r0 : BitVec 32 := 10#32
  let v53_r0 : BitVec 1 := Scalar.cmpi .eq v52_r0 c10_i32_r0
  let c0_i32_56_r0 : BitVec 32 := 0#32
  let v54_r0 : BitVec 32 := Scalar.select v53_r0 c0_i32_56_r0 v52_r0
  let c1_i32_58_r0 : BitVec 32 := 1#32
  let v56_r0 : BitVec 32 := Scalar.addi v54_r0 c1_i32_58_r0
  let v57_r0 : BitVec 32 := Scalar.select true_59_r0 v56_r0 v54_r0
  let c10_i32_60_r0 : BitVec 32 := 10#32
  let v58_r0 : BitVec 1 := Scalar.cmpi .eq v57_r0 c10_i32_60_r0
  let c0_i32_61_r0 : BitVec 32 := 0#32
  let v59_r0 : BitVec 32 := Scalar.select v58_r0 c0_i32_61_r0 v57_r0
  let c0_i32_62_r0 : BitVec 32 := 0#32
  let v60_r0 : BitVec 32 := Scalar.addi v59_r0 c0_i32_62_r0
  let c0_i32_57_r0 : BitVec 32 := 0#32
  let v55_r0 : BitVec 32 := Scalar.addi v54_r0 c0_i32_57_r0
  let v110_r0 : BitVec 1 := Scalar.cmpi .ne v60_r0 v55_r0
  let v111_r0 : BitVec 1 := Scalar.andi true_108_r0 v110_r0
  let true_109_r0 : BitVec 1 := 1#1
  let v112_r0 : BitVec 1 := Scalar.andi v111_r0 true_109_r0
  let v113_r0 : BitVec 32 := Scalar.extui v112_r0
  let c0_i32_110_r0 : BitVec 32 := 0#32
  let v114_r0 : BitVec 1 := Scalar.cmpi .ne v113_r0 c0_i32_110_r0
  v114_r0

def k0_off9 : Fin 1 → Nat :=
  let true_98_r0 : BitVec 1 := 1#1
  let true_53_r0 : BitVec 1 := 1#1
  let c1_i32_55_r0 : BitVec 32 := 1#32
  let c0_i32_54_r0 : BitVec 32 := 0#32
  let v52_r0 : BitVec 32 := Scalar.select true_53_r0 c1_i32_55_r0 c0_i32_54_r0
  let c10_i32_r0 : BitVec 32 := 10#32
  let v53_r0 : BitVec 1 := Scalar.cmpi .eq v52_r0 c10_i32_r0
  let c0_i32_56_r0 : BitVec 32 := 0#32
  let v54_r0 : BitVec 32 := Scalar.select v53_r0 c0_i32_56_r0 v52_r0
  let c0_i32_57_r0 : BitVec 32 := 0#32
  let v55_r0 : BitVec 32 := Scalar.addi v54_r0 c0_i32_57_r0
  let c0_i32_97_r0 : BitVec 32 := 0#32
  let v95_r0 : BitVec 1 := Scalar.cmpi .ne v55_r0 c0_i32_97_r0
  let v96_r0 : BitVec 1 := Scalar.andi true_98_r0 v95_r0
  let c0_i32_88_r0 : BitVec 32 := 0#32
  let c1_i32_89_r0 : BitVec 32 := 1#32
  let v87_r0 : BitVec 32 := Scalar.addi c0_i32_88_r0 c1_i32_89_r0
  let c1_i32_101_r0 : BitVec 32 := 1#32
  let v100_r0 : BitVec 32 := Scalar.addi v87_r0 c1_i32_101_r0
  let v101_r0 : BitVec 32 := Scalar.select v96_r0 v100_r0 v87_r0
  let c6_i32_182_r0 : BitVec 32 := 6#32
  let v197_r0 : BitVec 32 := Scalar.remui v101_r0 c6_i32_182_r0
  ![v197_r0.toNat]
def k0_off10 : Fin 3 → Nat :=
  let true_98_r0 : BitVec 1 := 1#1
  let true_53_r0 : BitVec 1 := 1#1
  let c1_i32_55_r0 : BitVec 32 := 1#32
  let c0_i32_54_r0 : BitVec 32 := 0#32
  let v52_r0 : BitVec 32 := Scalar.select true_53_r0 c1_i32_55_r0 c0_i32_54_r0
  let c10_i32_r0 : BitVec 32 := 10#32
  let v53_r0 : BitVec 1 := Scalar.cmpi .eq v52_r0 c10_i32_r0
  let c0_i32_56_r0 : BitVec 32 := 0#32
  let v54_r0 : BitVec 32 := Scalar.select v53_r0 c0_i32_56_r0 v52_r0
  let c0_i32_57_r0 : BitVec 32 := 0#32
  let v55_r0 : BitVec 32 := Scalar.addi v54_r0 c0_i32_57_r0
  let c0_i32_97_r0 : BitVec 32 := 0#32
  let v95_r0 : BitVec 1 := Scalar.cmpi .ne v55_r0 c0_i32_97_r0
  let v96_r0 : BitVec 1 := Scalar.andi true_98_r0 v95_r0
  let c0_i32_88_r0 : BitVec 32 := 0#32
  let c1_i32_89_r0 : BitVec 32 := 1#32
  let v87_r0 : BitVec 32 := Scalar.addi c0_i32_88_r0 c1_i32_89_r0
  let c1_i32_101_r0 : BitVec 32 := 1#32
  let v100_r0 : BitVec 32 := Scalar.addi v87_r0 c1_i32_101_r0
  let v101_r0 : BitVec 32 := Scalar.select v96_r0 v100_r0 v87_r0
  let c6_i32_182_r0 : BitVec 32 := 6#32
  let v197_r0 : BitVec 32 := Scalar.remui v101_r0 c6_i32_182_r0
  let c0_i32_183_r0 : BitVec 32 := 0#32
  let c0_i32_184_r0 : BitVec 32 := 0#32
  ![v197_r0.toNat, 0, 0]
def k0_off11 : Fin 2 → Nat :=
  let c5000_i32_r0 : BitVec 32 := 5000#32
  let true_59_r0 : BitVec 1 := 1#1
  let true_53_r0 : BitVec 1 := 1#1
  let c1_i32_55_r0 : BitVec 32 := 1#32
  let c0_i32_54_r0 : BitVec 32 := 0#32
  let v52_r0 : BitVec 32 := Scalar.select true_53_r0 c1_i32_55_r0 c0_i32_54_r0
  let c10_i32_r0 : BitVec 32 := 10#32
  let v53_r0 : BitVec 1 := Scalar.cmpi .eq v52_r0 c10_i32_r0
  let c0_i32_56_r0 : BitVec 32 := 0#32
  let v54_r0 : BitVec 32 := Scalar.select v53_r0 c0_i32_56_r0 v52_r0
  let c1_i32_58_r0 : BitVec 32 := 1#32
  let v56_r0 : BitVec 32 := Scalar.addi v54_r0 c1_i32_58_r0
  let v57_r0 : BitVec 32 := Scalar.select true_59_r0 v56_r0 v54_r0
  let c10_i32_60_r0 : BitVec 32 := 10#32
  let v58_r0 : BitVec 1 := Scalar.cmpi .eq v57_r0 c10_i32_60_r0
  let c0_i32_61_r0 : BitVec 32 := 0#32
  let v59_r0 : BitVec 32 := Scalar.select v58_r0 c0_i32_61_r0 v57_r0
  let c0_i32_62_r0 : BitVec 32 := 0#32
  let v60_r0 : BitVec 32 := Scalar.addi v59_r0 c0_i32_62_r0
  let v198_r0 : BitVec 32 := Scalar.muli c5000_i32_r0 v60_r0
  let c0_i32_185_r0 : BitVec 32 := 0#32
  ![v198_r0.toNat, 0]
def k0_cond4 : BitVec 1 :=
  let true_113_r0 : BitVec 1 := 1#1
  let c10_i32_112_r0 : BitVec 32 := 10#32
  let true_59_r0 : BitVec 1 := 1#1
  let true_53_r0 : BitVec 1 := 1#1
  let c1_i32_55_r0 : BitVec 32 := 1#32
  let c0_i32_54_r0 : BitVec 32 := 0#32
  let v52_r0 : BitVec 32 := Scalar.select true_53_r0 c1_i32_55_r0 c0_i32_54_r0
  let c10_i32_r0 : BitVec 32 := 10#32
  let v53_r0 : BitVec 1 := Scalar.cmpi .eq v52_r0 c10_i32_r0
  let c0_i32_56_r0 : BitVec 32 := 0#32
  let v54_r0 : BitVec 32 := Scalar.select v53_r0 c0_i32_56_r0 v52_r0
  let c1_i32_58_r0 : BitVec 32 := 1#32
  let v56_r0 : BitVec 32 := Scalar.addi v54_r0 c1_i32_58_r0
  let v57_r0 : BitVec 32 := Scalar.select true_59_r0 v56_r0 v54_r0
  let c10_i32_60_r0 : BitVec 32 := 10#32
  let v58_r0 : BitVec 1 := Scalar.cmpi .eq v57_r0 c10_i32_60_r0
  let c0_i32_61_r0 : BitVec 32 := 0#32
  let v59_r0 : BitVec 32 := Scalar.select v58_r0 c0_i32_61_r0 v57_r0
  let c0_i32_62_r0 : BitVec 32 := 0#32
  let v60_r0 : BitVec 32 := Scalar.addi v59_r0 c0_i32_62_r0
  let v117_r0 : BitVec 32 := Scalar.addi c10_i32_112_r0 v60_r0
  let c10_i32_102_r0 : BitVec 32 := 10#32
  let c0_i32_57_r0 : BitVec 32 := 0#32
  let v55_r0 : BitVec 32 := Scalar.addi v54_r0 c0_i32_57_r0
  let v102_r0 : BitVec 32 := Scalar.addi c10_i32_102_r0 v55_r0
  let v118_r0 : BitVec 1 := Scalar.cmpi .ne v117_r0 v102_r0
  let v119_r0 : BitVec 1 := Scalar.andi true_113_r0 v118_r0
  let true_114_r0 : BitVec 1 := 1#1
  let v120_r0 : BitVec 1 := Scalar.andi v119_r0 true_114_r0
  let v121_r0 : BitVec 32 := Scalar.extui v120_r0
  let c0_i32_115_r0 : BitVec 32 := 0#32
  let v122_r0 : BitVec 1 := Scalar.cmpi .ne v121_r0 c0_i32_115_r0
  v122_r0

def k0_off12 : Fin 1 → Nat :=
  let true_104_r0 : BitVec 1 := 1#1
  let c10_i32_102_r0 : BitVec 32 := 10#32
  let true_53_r0 : BitVec 1 := 1#1
  let c1_i32_55_r0 : BitVec 32 := 1#32
  let c0_i32_54_r0 : BitVec 32 := 0#32
  let v52_r0 : BitVec 32 := Scalar.select true_53_r0 c1_i32_55_r0 c0_i32_54_r0
  let c10_i32_r0 : BitVec 32 := 10#32
  let v53_r0 : BitVec 1 := Scalar.cmpi .eq v52_r0 c10_i32_r0
  let c0_i32_56_r0 : BitVec 32 := 0#32
  let v54_r0 : BitVec 32 := Scalar.select v53_r0 c0_i32_56_r0 v52_r0
  let c0_i32_57_r0 : BitVec 32 := 0#32
  let v55_r0 : BitVec 32 := Scalar.addi v54_r0 c0_i32_57_r0
  let v102_r0 : BitVec 32 := Scalar.addi c10_i32_102_r0 v55_r0
  let c10_i32_103_r0 : BitVec 32 := 10#32
  let v103_r0 : BitVec 1 := Scalar.cmpi .ne v102_r0 c10_i32_103_r0
  let v104_r0 : BitVec 1 := Scalar.andi true_104_r0 v103_r0
  let c0_i32_95_r0 : BitVec 32 := 0#32
  let c1_i32_96_r0 : BitVec 32 := 1#32
  let v94_r0 : BitVec 32 := Scalar.addi c0_i32_95_r0 c1_i32_96_r0
  let c1_i32_107_r0 : BitVec 32 := 1#32
  let v108_r0 : BitVec 32 := Scalar.addi v94_r0 c1_i32_107_r0
  let v109_r0 : BitVec 32 := Scalar.select v104_r0 v108_r0 v94_r0
  let c6_i32_182_r0 : BitVec 32 := 6#32
  let v197_r0 : BitVec 32 := Scalar.remui v109_r0 c6_i32_182_r0
  ![v197_r0.toNat]
def k0_off13 : Fin 3 → Nat :=
  let true_104_r0 : BitVec 1 := 1#1
  let c10_i32_102_r0 : BitVec 32 := 10#32
  let true_53_r0 : BitVec 1 := 1#1
  let c1_i32_55_r0 : BitVec 32 := 1#32
  let c0_i32_54_r0 : BitVec 32 := 0#32
  let v52_r0 : BitVec 32 := Scalar.select true_53_r0 c1_i32_55_r0 c0_i32_54_r0
  let c10_i32_r0 : BitVec 32 := 10#32
  let v53_r0 : BitVec 1 := Scalar.cmpi .eq v52_r0 c10_i32_r0
  let c0_i32_56_r0 : BitVec 32 := 0#32
  let v54_r0 : BitVec 32 := Scalar.select v53_r0 c0_i32_56_r0 v52_r0
  let c0_i32_57_r0 : BitVec 32 := 0#32
  let v55_r0 : BitVec 32 := Scalar.addi v54_r0 c0_i32_57_r0
  let v102_r0 : BitVec 32 := Scalar.addi c10_i32_102_r0 v55_r0
  let c10_i32_103_r0 : BitVec 32 := 10#32
  let v103_r0 : BitVec 1 := Scalar.cmpi .ne v102_r0 c10_i32_103_r0
  let v104_r0 : BitVec 1 := Scalar.andi true_104_r0 v103_r0
  let c0_i32_95_r0 : BitVec 32 := 0#32
  let c1_i32_96_r0 : BitVec 32 := 1#32
  let v94_r0 : BitVec 32 := Scalar.addi c0_i32_95_r0 c1_i32_96_r0
  let c1_i32_107_r0 : BitVec 32 := 1#32
  let v108_r0 : BitVec 32 := Scalar.addi v94_r0 c1_i32_107_r0
  let v109_r0 : BitVec 32 := Scalar.select v104_r0 v108_r0 v94_r0
  let c6_i32_182_r0 : BitVec 32 := 6#32
  let v197_r0 : BitVec 32 := Scalar.remui v109_r0 c6_i32_182_r0
  let c0_i32_184_r0 : BitVec 32 := 0#32
  let c0_i32_185_r0 : BitVec 32 := 0#32
  ![v197_r0.toNat, 0, 0]
def k0_off14 : Fin 2 → Nat :=
  let c5000_i32_r0 : BitVec 32 := 5000#32
  let c10_i32_183_r0 : BitVec 32 := 10#32
  let true_59_r0 : BitVec 1 := 1#1
  let true_53_r0 : BitVec 1 := 1#1
  let c1_i32_55_r0 : BitVec 32 := 1#32
  let c0_i32_54_r0 : BitVec 32 := 0#32
  let v52_r0 : BitVec 32 := Scalar.select true_53_r0 c1_i32_55_r0 c0_i32_54_r0
  let c10_i32_r0 : BitVec 32 := 10#32
  let v53_r0 : BitVec 1 := Scalar.cmpi .eq v52_r0 c10_i32_r0
  let c0_i32_56_r0 : BitVec 32 := 0#32
  let v54_r0 : BitVec 32 := Scalar.select v53_r0 c0_i32_56_r0 v52_r0
  let c1_i32_58_r0 : BitVec 32 := 1#32
  let v56_r0 : BitVec 32 := Scalar.addi v54_r0 c1_i32_58_r0
  let v57_r0 : BitVec 32 := Scalar.select true_59_r0 v56_r0 v54_r0
  let c10_i32_60_r0 : BitVec 32 := 10#32
  let v58_r0 : BitVec 1 := Scalar.cmpi .eq v57_r0 c10_i32_60_r0
  let c0_i32_61_r0 : BitVec 32 := 0#32
  let v59_r0 : BitVec 32 := Scalar.select v58_r0 c0_i32_61_r0 v57_r0
  let c0_i32_62_r0 : BitVec 32 := 0#32
  let v60_r0 : BitVec 32 := Scalar.addi v59_r0 c0_i32_62_r0
  let v198_r0 : BitVec 32 := Scalar.addi c10_i32_183_r0 v60_r0
  let v199_r0 : BitVec 32 := Scalar.muli c5000_i32_r0 v198_r0
  let c0_i32_186_r0 : BitVec 32 := 0#32
  ![v199_r0.toNat, 0]
def k0_cond5 : BitVec 1 :=
  let true_117_r0 : BitVec 1 := 1#1
  let true_64_r0 : BitVec 1 := 1#1
  let true_59_r0 : BitVec 1 := 1#1
  let true_53_r0 : BitVec 1 := 1#1
  let c1_i32_55_r0 : BitVec 32 := 1#32
  let c0_i32_54_r0 : BitVec 32 := 0#32
  let v52_r0 : BitVec 32 := Scalar.select true_53_r0 c1_i32_55_r0 c0_i32_54_r0
  let c10_i32_r0 : BitVec 32 := 10#32
  let v53_r0 : BitVec 1 := Scalar.cmpi .eq v52_r0 c10_i32_r0
  let c0_i32_56_r0 : BitVec 32 := 0#32
  let v54_r0 : BitVec 32 := Scalar.select v53_r0 c0_i32_56_r0 v52_r0
  let c1_i32_58_r0 : BitVec 32 := 1#32
  let v56_r0 : BitVec 32 := Scalar.addi v54_r0 c1_i32_58_r0
  let v57_r0 : BitVec 32 := Scalar.select true_59_r0 v56_r0 v54_r0
  let c10_i32_60_r0 : BitVec 32 := 10#32
  let v58_r0 : BitVec 1 := Scalar.cmpi .eq v57_r0 c10_i32_60_r0
  let c0_i32_61_r0 : BitVec 32 := 0#32
  let v59_r0 : BitVec 32 := Scalar.select v58_r0 c0_i32_61_r0 v57_r0
  let c1_i32_63_r0 : BitVec 32 := 1#32
  let v61_r0 : BitVec 32 := Scalar.addi v59_r0 c1_i32_63_r0
  let v62_r0 : BitVec 32 := Scalar.select true_64_r0 v61_r0 v59_r0
  let c10_i32_65_r0 : BitVec 32 := 10#32
  let v63_r0 : BitVec 1 := Scalar.cmpi .eq v62_r0 c10_i32_65_r0
  let c0_i32_66_r0 : BitVec 32 := 0#32
  let v64_r0 : BitVec 32 := Scalar.select v63_r0 c0_i32_66_r0 v62_r0
  let c0_i32_67_r0 : BitVec 32 := 0#32
  let v65_r0 : BitVec 32 := Scalar.addi v64_r0 c0_i32_67_r0
  let c0_i32_62_r0 : BitVec 32 := 0#32
  let v60_r0 : BitVec 32 := Scalar.addi v59_r0 c0_i32_62_r0
  let v125_r0 : BitVec 1 := Scalar.cmpi .ne v65_r0 v60_r0
  let v126_r0 : BitVec 1 := Scalar.andi true_117_r0 v125_r0
  let true_118_r0 : BitVec 1 := 1#1
  let v127_r0 : BitVec 1 := Scalar.andi v126_r0 true_118_r0
  let v128_r0 : BitVec 32 := Scalar.extui v127_r0
  let c0_i32_119_r0 : BitVec 32 := 0#32
  let v129_r0 : BitVec 1 := Scalar.cmpi .ne v128_r0 c0_i32_119_r0
  v129_r0

def k0_off15 : Fin 1 → Nat :=
  let true_108_r0 : BitVec 1 := 1#1
  let true_59_r0 : BitVec 1 := 1#1
  let true_53_r0 : BitVec 1 := 1#1
  let c1_i32_55_r0 : BitVec 32 := 1#32
  let c0_i32_54_r0 : BitVec 32 := 0#32
  let v52_r0 : BitVec 32 := Scalar.select true_53_r0 c1_i32_55_r0 c0_i32_54_r0
  let c10_i32_r0 : BitVec 32 := 10#32
  let v53_r0 : BitVec 1 := Scalar.cmpi .eq v52_r0 c10_i32_r0
  let c0_i32_56_r0 : BitVec 32 := 0#32
  let v54_r0 : BitVec 32 := Scalar.select v53_r0 c0_i32_56_r0 v52_r0
  let c1_i32_58_r0 : BitVec 32 := 1#32
  let v56_r0 : BitVec 32 := Scalar.addi v54_r0 c1_i32_58_r0
  let v57_r0 : BitVec 32 := Scalar.select true_59_r0 v56_r0 v54_r0
  let c10_i32_60_r0 : BitVec 32 := 10#32
  let v58_r0 : BitVec 1 := Scalar.cmpi .eq v57_r0 c10_i32_60_r0
  let c0_i32_61_r0 : BitVec 32 := 0#32
  let v59_r0 : BitVec 32 := Scalar.select v58_r0 c0_i32_61_r0 v57_r0
  let c0_i32_62_r0 : BitVec 32 := 0#32
  let v60_r0 : BitVec 32 := Scalar.addi v59_r0 c0_i32_62_r0
  let c0_i32_57_r0 : BitVec 32 := 0#32
  let v55_r0 : BitVec 32 := Scalar.addi v54_r0 c0_i32_57_r0
  let v110_r0 : BitVec 1 := Scalar.cmpi .ne v60_r0 v55_r0
  let v111_r0 : BitVec 1 := Scalar.andi true_108_r0 v110_r0
  let true_98_r0 : BitVec 1 := 1#1
  let c0_i32_97_r0 : BitVec 32 := 0#32
  let v95_r0 : BitVec 1 := Scalar.cmpi .ne v55_r0 c0_i32_97_r0
  let v96_r0 : BitVec 1 := Scalar.andi true_98_r0 v95_r0
  let c0_i32_88_r0 : BitVec 32 := 0#32
  let c1_i32_89_r0 : BitVec 32 := 1#32
  let v87_r0 : BitVec 32 := Scalar.addi c0_i32_88_r0 c1_i32_89_r0
  let c1_i32_101_r0 : BitVec 32 := 1#32
  let v100_r0 : BitVec 32 := Scalar.addi v87_r0 c1_i32_101_r0
  let v101_r0 : BitVec 32 := Scalar.select v96_r0 v100_r0 v87_r0
  let c1_i32_111_r0 : BitVec 32 := 1#32
  let v115_r0 : BitVec 32 := Scalar.addi v101_r0 c1_i32_111_r0
  let v116_r0 : BitVec 32 := Scalar.select v111_r0 v115_r0 v101_r0
  let c6_i32_182_r0 : BitVec 32 := 6#32
  let v197_r0 : BitVec 32 := Scalar.remui v116_r0 c6_i32_182_r0
  ![v197_r0.toNat]
def k0_off16 : Fin 3 → Nat :=
  let true_108_r0 : BitVec 1 := 1#1
  let true_59_r0 : BitVec 1 := 1#1
  let true_53_r0 : BitVec 1 := 1#1
  let c1_i32_55_r0 : BitVec 32 := 1#32
  let c0_i32_54_r0 : BitVec 32 := 0#32
  let v52_r0 : BitVec 32 := Scalar.select true_53_r0 c1_i32_55_r0 c0_i32_54_r0
  let c10_i32_r0 : BitVec 32 := 10#32
  let v53_r0 : BitVec 1 := Scalar.cmpi .eq v52_r0 c10_i32_r0
  let c0_i32_56_r0 : BitVec 32 := 0#32
  let v54_r0 : BitVec 32 := Scalar.select v53_r0 c0_i32_56_r0 v52_r0
  let c1_i32_58_r0 : BitVec 32 := 1#32
  let v56_r0 : BitVec 32 := Scalar.addi v54_r0 c1_i32_58_r0
  let v57_r0 : BitVec 32 := Scalar.select true_59_r0 v56_r0 v54_r0
  let c10_i32_60_r0 : BitVec 32 := 10#32
  let v58_r0 : BitVec 1 := Scalar.cmpi .eq v57_r0 c10_i32_60_r0
  let c0_i32_61_r0 : BitVec 32 := 0#32
  let v59_r0 : BitVec 32 := Scalar.select v58_r0 c0_i32_61_r0 v57_r0
  let c0_i32_62_r0 : BitVec 32 := 0#32
  let v60_r0 : BitVec 32 := Scalar.addi v59_r0 c0_i32_62_r0
  let c0_i32_57_r0 : BitVec 32 := 0#32
  let v55_r0 : BitVec 32 := Scalar.addi v54_r0 c0_i32_57_r0
  let v110_r0 : BitVec 1 := Scalar.cmpi .ne v60_r0 v55_r0
  let v111_r0 : BitVec 1 := Scalar.andi true_108_r0 v110_r0
  let true_98_r0 : BitVec 1 := 1#1
  let c0_i32_97_r0 : BitVec 32 := 0#32
  let v95_r0 : BitVec 1 := Scalar.cmpi .ne v55_r0 c0_i32_97_r0
  let v96_r0 : BitVec 1 := Scalar.andi true_98_r0 v95_r0
  let c0_i32_88_r0 : BitVec 32 := 0#32
  let c1_i32_89_r0 : BitVec 32 := 1#32
  let v87_r0 : BitVec 32 := Scalar.addi c0_i32_88_r0 c1_i32_89_r0
  let c1_i32_101_r0 : BitVec 32 := 1#32
  let v100_r0 : BitVec 32 := Scalar.addi v87_r0 c1_i32_101_r0
  let v101_r0 : BitVec 32 := Scalar.select v96_r0 v100_r0 v87_r0
  let c1_i32_111_r0 : BitVec 32 := 1#32
  let v115_r0 : BitVec 32 := Scalar.addi v101_r0 c1_i32_111_r0
  let v116_r0 : BitVec 32 := Scalar.select v111_r0 v115_r0 v101_r0
  let c6_i32_182_r0 : BitVec 32 := 6#32
  let v197_r0 : BitVec 32 := Scalar.remui v116_r0 c6_i32_182_r0
  let c0_i32_183_r0 : BitVec 32 := 0#32
  let c0_i32_184_r0 : BitVec 32 := 0#32
  ![v197_r0.toNat, 0, 0]
def k0_off17 : Fin 2 → Nat :=
  let c5000_i32_r0 : BitVec 32 := 5000#32
  let true_64_r0 : BitVec 1 := 1#1
  let true_59_r0 : BitVec 1 := 1#1
  let true_53_r0 : BitVec 1 := 1#1
  let c1_i32_55_r0 : BitVec 32 := 1#32
  let c0_i32_54_r0 : BitVec 32 := 0#32
  let v52_r0 : BitVec 32 := Scalar.select true_53_r0 c1_i32_55_r0 c0_i32_54_r0
  let c10_i32_r0 : BitVec 32 := 10#32
  let v53_r0 : BitVec 1 := Scalar.cmpi .eq v52_r0 c10_i32_r0
  let c0_i32_56_r0 : BitVec 32 := 0#32
  let v54_r0 : BitVec 32 := Scalar.select v53_r0 c0_i32_56_r0 v52_r0
  let c1_i32_58_r0 : BitVec 32 := 1#32
  let v56_r0 : BitVec 32 := Scalar.addi v54_r0 c1_i32_58_r0
  let v57_r0 : BitVec 32 := Scalar.select true_59_r0 v56_r0 v54_r0
  let c10_i32_60_r0 : BitVec 32 := 10#32
  let v58_r0 : BitVec 1 := Scalar.cmpi .eq v57_r0 c10_i32_60_r0
  let c0_i32_61_r0 : BitVec 32 := 0#32
  let v59_r0 : BitVec 32 := Scalar.select v58_r0 c0_i32_61_r0 v57_r0
  let c1_i32_63_r0 : BitVec 32 := 1#32
  let v61_r0 : BitVec 32 := Scalar.addi v59_r0 c1_i32_63_r0
  let v62_r0 : BitVec 32 := Scalar.select true_64_r0 v61_r0 v59_r0
  let c10_i32_65_r0 : BitVec 32 := 10#32
  let v63_r0 : BitVec 1 := Scalar.cmpi .eq v62_r0 c10_i32_65_r0
  let c0_i32_66_r0 : BitVec 32 := 0#32
  let v64_r0 : BitVec 32 := Scalar.select v63_r0 c0_i32_66_r0 v62_r0
  let c0_i32_67_r0 : BitVec 32 := 0#32
  let v65_r0 : BitVec 32 := Scalar.addi v64_r0 c0_i32_67_r0
  let v198_r0 : BitVec 32 := Scalar.muli c5000_i32_r0 v65_r0
  let c0_i32_185_r0 : BitVec 32 := 0#32
  ![v198_r0.toNat, 0]
def k0_cond6 : BitVec 1 :=
  let true_122_r0 : BitVec 1 := 1#1
  let c10_i32_121_r0 : BitVec 32 := 10#32
  let true_64_r0 : BitVec 1 := 1#1
  let true_59_r0 : BitVec 1 := 1#1
  let true_53_r0 : BitVec 1 := 1#1
  let c1_i32_55_r0 : BitVec 32 := 1#32
  let c0_i32_54_r0 : BitVec 32 := 0#32
  let v52_r0 : BitVec 32 := Scalar.select true_53_r0 c1_i32_55_r0 c0_i32_54_r0
  let c10_i32_r0 : BitVec 32 := 10#32
  let v53_r0 : BitVec 1 := Scalar.cmpi .eq v52_r0 c10_i32_r0
  let c0_i32_56_r0 : BitVec 32 := 0#32
  let v54_r0 : BitVec 32 := Scalar.select v53_r0 c0_i32_56_r0 v52_r0
  let c1_i32_58_r0 : BitVec 32 := 1#32
  let v56_r0 : BitVec 32 := Scalar.addi v54_r0 c1_i32_58_r0
  let v57_r0 : BitVec 32 := Scalar.select true_59_r0 v56_r0 v54_r0
  let c10_i32_60_r0 : BitVec 32 := 10#32
  let v58_r0 : BitVec 1 := Scalar.cmpi .eq v57_r0 c10_i32_60_r0
  let c0_i32_61_r0 : BitVec 32 := 0#32
  let v59_r0 : BitVec 32 := Scalar.select v58_r0 c0_i32_61_r0 v57_r0
  let c1_i32_63_r0 : BitVec 32 := 1#32
  let v61_r0 : BitVec 32 := Scalar.addi v59_r0 c1_i32_63_r0
  let v62_r0 : BitVec 32 := Scalar.select true_64_r0 v61_r0 v59_r0
  let c10_i32_65_r0 : BitVec 32 := 10#32
  let v63_r0 : BitVec 1 := Scalar.cmpi .eq v62_r0 c10_i32_65_r0
  let c0_i32_66_r0 : BitVec 32 := 0#32
  let v64_r0 : BitVec 32 := Scalar.select v63_r0 c0_i32_66_r0 v62_r0
  let c0_i32_67_r0 : BitVec 32 := 0#32
  let v65_r0 : BitVec 32 := Scalar.addi v64_r0 c0_i32_67_r0
  let v132_r0 : BitVec 32 := Scalar.addi c10_i32_121_r0 v65_r0
  let c10_i32_112_r0 : BitVec 32 := 10#32
  let c0_i32_62_r0 : BitVec 32 := 0#32
  let v60_r0 : BitVec 32 := Scalar.addi v59_r0 c0_i32_62_r0
  let v117_r0 : BitVec 32 := Scalar.addi c10_i32_112_r0 v60_r0
  let v133_r0 : BitVec 1 := Scalar.cmpi .ne v132_r0 v117_r0
  let v134_r0 : BitVec 1 := Scalar.andi true_122_r0 v133_r0
  let true_123_r0 : BitVec 1 := 1#1
  let v135_r0 : BitVec 1 := Scalar.andi v134_r0 true_123_r0
  let v136_r0 : BitVec 32 := Scalar.extui v135_r0
  let c0_i32_124_r0 : BitVec 32 := 0#32
  let v137_r0 : BitVec 1 := Scalar.cmpi .ne v136_r0 c0_i32_124_r0
  v137_r0

def k0_off18 : Fin 1 → Nat :=
  let true_113_r0 : BitVec 1 := 1#1
  let c10_i32_112_r0 : BitVec 32 := 10#32
  let true_59_r0 : BitVec 1 := 1#1
  let true_53_r0 : BitVec 1 := 1#1
  let c1_i32_55_r0 : BitVec 32 := 1#32
  let c0_i32_54_r0 : BitVec 32 := 0#32
  let v52_r0 : BitVec 32 := Scalar.select true_53_r0 c1_i32_55_r0 c0_i32_54_r0
  let c10_i32_r0 : BitVec 32 := 10#32
  let v53_r0 : BitVec 1 := Scalar.cmpi .eq v52_r0 c10_i32_r0
  let c0_i32_56_r0 : BitVec 32 := 0#32
  let v54_r0 : BitVec 32 := Scalar.select v53_r0 c0_i32_56_r0 v52_r0
  let c1_i32_58_r0 : BitVec 32 := 1#32
  let v56_r0 : BitVec 32 := Scalar.addi v54_r0 c1_i32_58_r0
  let v57_r0 : BitVec 32 := Scalar.select true_59_r0 v56_r0 v54_r0
  let c10_i32_60_r0 : BitVec 32 := 10#32
  let v58_r0 : BitVec 1 := Scalar.cmpi .eq v57_r0 c10_i32_60_r0
  let c0_i32_61_r0 : BitVec 32 := 0#32
  let v59_r0 : BitVec 32 := Scalar.select v58_r0 c0_i32_61_r0 v57_r0
  let c0_i32_62_r0 : BitVec 32 := 0#32
  let v60_r0 : BitVec 32 := Scalar.addi v59_r0 c0_i32_62_r0
  let v117_r0 : BitVec 32 := Scalar.addi c10_i32_112_r0 v60_r0
  let c10_i32_102_r0 : BitVec 32 := 10#32
  let c0_i32_57_r0 : BitVec 32 := 0#32
  let v55_r0 : BitVec 32 := Scalar.addi v54_r0 c0_i32_57_r0
  let v102_r0 : BitVec 32 := Scalar.addi c10_i32_102_r0 v55_r0
  let v118_r0 : BitVec 1 := Scalar.cmpi .ne v117_r0 v102_r0
  let v119_r0 : BitVec 1 := Scalar.andi true_113_r0 v118_r0
  let true_104_r0 : BitVec 1 := 1#1
  let c10_i32_103_r0 : BitVec 32 := 10#32
  let v103_r0 : BitVec 1 := Scalar.cmpi .ne v102_r0 c10_i32_103_r0
  let v104_r0 : BitVec 1 := Scalar.andi true_104_r0 v103_r0
  let c0_i32_95_r0 : BitVec 32 := 0#32
  let c1_i32_96_r0 : BitVec 32 := 1#32
  let v94_r0 : BitVec 32 := Scalar.addi c0_i32_95_r0 c1_i32_96_r0
  let c1_i32_107_r0 : BitVec 32 := 1#32
  let v108_r0 : BitVec 32 := Scalar.addi v94_r0 c1_i32_107_r0
  let v109_r0 : BitVec 32 := Scalar.select v104_r0 v108_r0 v94_r0
  let c1_i32_116_r0 : BitVec 32 := 1#32
  let v123_r0 : BitVec 32 := Scalar.addi v109_r0 c1_i32_116_r0
  let v124_r0 : BitVec 32 := Scalar.select v119_r0 v123_r0 v109_r0
  let c6_i32_182_r0 : BitVec 32 := 6#32
  let v197_r0 : BitVec 32 := Scalar.remui v124_r0 c6_i32_182_r0
  ![v197_r0.toNat]
def k0_off19 : Fin 3 → Nat :=
  let true_113_r0 : BitVec 1 := 1#1
  let c10_i32_112_r0 : BitVec 32 := 10#32
  let true_59_r0 : BitVec 1 := 1#1
  let true_53_r0 : BitVec 1 := 1#1
  let c1_i32_55_r0 : BitVec 32 := 1#32
  let c0_i32_54_r0 : BitVec 32 := 0#32
  let v52_r0 : BitVec 32 := Scalar.select true_53_r0 c1_i32_55_r0 c0_i32_54_r0
  let c10_i32_r0 : BitVec 32 := 10#32
  let v53_r0 : BitVec 1 := Scalar.cmpi .eq v52_r0 c10_i32_r0
  let c0_i32_56_r0 : BitVec 32 := 0#32
  let v54_r0 : BitVec 32 := Scalar.select v53_r0 c0_i32_56_r0 v52_r0
  let c1_i32_58_r0 : BitVec 32 := 1#32
  let v56_r0 : BitVec 32 := Scalar.addi v54_r0 c1_i32_58_r0
  let v57_r0 : BitVec 32 := Scalar.select true_59_r0 v56_r0 v54_r0
  let c10_i32_60_r0 : BitVec 32 := 10#32
  let v58_r0 : BitVec 1 := Scalar.cmpi .eq v57_r0 c10_i32_60_r0
  let c0_i32_61_r0 : BitVec 32 := 0#32
  let v59_r0 : BitVec 32 := Scalar.select v58_r0 c0_i32_61_r0 v57_r0
  let c0_i32_62_r0 : BitVec 32 := 0#32
  let v60_r0 : BitVec 32 := Scalar.addi v59_r0 c0_i32_62_r0
  let v117_r0 : BitVec 32 := Scalar.addi c10_i32_112_r0 v60_r0
  let c10_i32_102_r0 : BitVec 32 := 10#32
  let c0_i32_57_r0 : BitVec 32 := 0#32
  let v55_r0 : BitVec 32 := Scalar.addi v54_r0 c0_i32_57_r0
  let v102_r0 : BitVec 32 := Scalar.addi c10_i32_102_r0 v55_r0
  let v118_r0 : BitVec 1 := Scalar.cmpi .ne v117_r0 v102_r0
  let v119_r0 : BitVec 1 := Scalar.andi true_113_r0 v118_r0
  let true_104_r0 : BitVec 1 := 1#1
  let c10_i32_103_r0 : BitVec 32 := 10#32
  let v103_r0 : BitVec 1 := Scalar.cmpi .ne v102_r0 c10_i32_103_r0
  let v104_r0 : BitVec 1 := Scalar.andi true_104_r0 v103_r0
  let c0_i32_95_r0 : BitVec 32 := 0#32
  let c1_i32_96_r0 : BitVec 32 := 1#32
  let v94_r0 : BitVec 32 := Scalar.addi c0_i32_95_r0 c1_i32_96_r0
  let c1_i32_107_r0 : BitVec 32 := 1#32
  let v108_r0 : BitVec 32 := Scalar.addi v94_r0 c1_i32_107_r0
  let v109_r0 : BitVec 32 := Scalar.select v104_r0 v108_r0 v94_r0
  let c1_i32_116_r0 : BitVec 32 := 1#32
  let v123_r0 : BitVec 32 := Scalar.addi v109_r0 c1_i32_116_r0
  let v124_r0 : BitVec 32 := Scalar.select v119_r0 v123_r0 v109_r0
  let c6_i32_182_r0 : BitVec 32 := 6#32
  let v197_r0 : BitVec 32 := Scalar.remui v124_r0 c6_i32_182_r0
  let c0_i32_184_r0 : BitVec 32 := 0#32
  let c0_i32_185_r0 : BitVec 32 := 0#32
  ![v197_r0.toNat, 0, 0]
def k0_off20 : Fin 2 → Nat :=
  let c5000_i32_r0 : BitVec 32 := 5000#32
  let c10_i32_183_r0 : BitVec 32 := 10#32
  let true_64_r0 : BitVec 1 := 1#1
  let true_59_r0 : BitVec 1 := 1#1
  let true_53_r0 : BitVec 1 := 1#1
  let c1_i32_55_r0 : BitVec 32 := 1#32
  let c0_i32_54_r0 : BitVec 32 := 0#32
  let v52_r0 : BitVec 32 := Scalar.select true_53_r0 c1_i32_55_r0 c0_i32_54_r0
  let c10_i32_r0 : BitVec 32 := 10#32
  let v53_r0 : BitVec 1 := Scalar.cmpi .eq v52_r0 c10_i32_r0
  let c0_i32_56_r0 : BitVec 32 := 0#32
  let v54_r0 : BitVec 32 := Scalar.select v53_r0 c0_i32_56_r0 v52_r0
  let c1_i32_58_r0 : BitVec 32 := 1#32
  let v56_r0 : BitVec 32 := Scalar.addi v54_r0 c1_i32_58_r0
  let v57_r0 : BitVec 32 := Scalar.select true_59_r0 v56_r0 v54_r0
  let c10_i32_60_r0 : BitVec 32 := 10#32
  let v58_r0 : BitVec 1 := Scalar.cmpi .eq v57_r0 c10_i32_60_r0
  let c0_i32_61_r0 : BitVec 32 := 0#32
  let v59_r0 : BitVec 32 := Scalar.select v58_r0 c0_i32_61_r0 v57_r0
  let c1_i32_63_r0 : BitVec 32 := 1#32
  let v61_r0 : BitVec 32 := Scalar.addi v59_r0 c1_i32_63_r0
  let v62_r0 : BitVec 32 := Scalar.select true_64_r0 v61_r0 v59_r0
  let c10_i32_65_r0 : BitVec 32 := 10#32
  let v63_r0 : BitVec 1 := Scalar.cmpi .eq v62_r0 c10_i32_65_r0
  let c0_i32_66_r0 : BitVec 32 := 0#32
  let v64_r0 : BitVec 32 := Scalar.select v63_r0 c0_i32_66_r0 v62_r0
  let c0_i32_67_r0 : BitVec 32 := 0#32
  let v65_r0 : BitVec 32 := Scalar.addi v64_r0 c0_i32_67_r0
  let v198_r0 : BitVec 32 := Scalar.addi c10_i32_183_r0 v65_r0
  let v199_r0 : BitVec 32 := Scalar.muli c5000_i32_r0 v198_r0
  let c0_i32_186_r0 : BitVec 32 := 0#32
  ![v199_r0.toNat, 0]
def k0_cond7 : BitVec 1 :=
  let true_126_r0 : BitVec 1 := 1#1
  let true_69_r0 : BitVec 1 := 1#1
  let true_64_r0 : BitVec 1 := 1#1
  let true_59_r0 : BitVec 1 := 1#1
  let true_53_r0 : BitVec 1 := 1#1
  let c1_i32_55_r0 : BitVec 32 := 1#32
  let c0_i32_54_r0 : BitVec 32 := 0#32
  let v52_r0 : BitVec 32 := Scalar.select true_53_r0 c1_i32_55_r0 c0_i32_54_r0
  let c10_i32_r0 : BitVec 32 := 10#32
  let v53_r0 : BitVec 1 := Scalar.cmpi .eq v52_r0 c10_i32_r0
  let c0_i32_56_r0 : BitVec 32 := 0#32
  let v54_r0 : BitVec 32 := Scalar.select v53_r0 c0_i32_56_r0 v52_r0
  let c1_i32_58_r0 : BitVec 32 := 1#32
  let v56_r0 : BitVec 32 := Scalar.addi v54_r0 c1_i32_58_r0
  let v57_r0 : BitVec 32 := Scalar.select true_59_r0 v56_r0 v54_r0
  let c10_i32_60_r0 : BitVec 32 := 10#32
  let v58_r0 : BitVec 1 := Scalar.cmpi .eq v57_r0 c10_i32_60_r0
  let c0_i32_61_r0 : BitVec 32 := 0#32
  let v59_r0 : BitVec 32 := Scalar.select v58_r0 c0_i32_61_r0 v57_r0
  let c1_i32_63_r0 : BitVec 32 := 1#32
  let v61_r0 : BitVec 32 := Scalar.addi v59_r0 c1_i32_63_r0
  let v62_r0 : BitVec 32 := Scalar.select true_64_r0 v61_r0 v59_r0
  let c10_i32_65_r0 : BitVec 32 := 10#32
  let v63_r0 : BitVec 1 := Scalar.cmpi .eq v62_r0 c10_i32_65_r0
  let c0_i32_66_r0 : BitVec 32 := 0#32
  let v64_r0 : BitVec 32 := Scalar.select v63_r0 c0_i32_66_r0 v62_r0
  let c1_i32_68_r0 : BitVec 32 := 1#32
  let v66_r0 : BitVec 32 := Scalar.addi v64_r0 c1_i32_68_r0
  let v67_r0 : BitVec 32 := Scalar.select true_69_r0 v66_r0 v64_r0
  let c10_i32_70_r0 : BitVec 32 := 10#32
  let v68_r0 : BitVec 1 := Scalar.cmpi .eq v67_r0 c10_i32_70_r0
  let c0_i32_71_r0 : BitVec 32 := 0#32
  let v69_r0 : BitVec 32 := Scalar.select v68_r0 c0_i32_71_r0 v67_r0
  let c0_i32_72_r0 : BitVec 32 := 0#32
  let v70_r0 : BitVec 32 := Scalar.addi v69_r0 c0_i32_72_r0
  let c0_i32_67_r0 : BitVec 32 := 0#32
  let v65_r0 : BitVec 32 := Scalar.addi v64_r0 c0_i32_67_r0
  let v140_r0 : BitVec 1 := Scalar.cmpi .ne v70_r0 v65_r0
  let v141_r0 : BitVec 1 := Scalar.andi true_126_r0 v140_r0
  let true_127_r0 : BitVec 1 := 1#1
  let v142_r0 : BitVec 1 := Scalar.andi v141_r0 true_127_r0
  let v143_r0 : BitVec 32 := Scalar.extui v142_r0
  let c0_i32_128_r0 : BitVec 32 := 0#32
  let v144_r0 : BitVec 1 := Scalar.cmpi .ne v143_r0 c0_i32_128_r0
  v144_r0

def k0_off21 : Fin 1 → Nat :=
  let true_117_r0 : BitVec 1 := 1#1
  let true_64_r0 : BitVec 1 := 1#1
  let true_59_r0 : BitVec 1 := 1#1
  let true_53_r0 : BitVec 1 := 1#1
  let c1_i32_55_r0 : BitVec 32 := 1#32
  let c0_i32_54_r0 : BitVec 32 := 0#32
  let v52_r0 : BitVec 32 := Scalar.select true_53_r0 c1_i32_55_r0 c0_i32_54_r0
  let c10_i32_r0 : BitVec 32 := 10#32
  let v53_r0 : BitVec 1 := Scalar.cmpi .eq v52_r0 c10_i32_r0
  let c0_i32_56_r0 : BitVec 32 := 0#32
  let v54_r0 : BitVec 32 := Scalar.select v53_r0 c0_i32_56_r0 v52_r0
  let c1_i32_58_r0 : BitVec 32 := 1#32
  let v56_r0 : BitVec 32 := Scalar.addi v54_r0 c1_i32_58_r0
  let v57_r0 : BitVec 32 := Scalar.select true_59_r0 v56_r0 v54_r0
  let c10_i32_60_r0 : BitVec 32 := 10#32
  let v58_r0 : BitVec 1 := Scalar.cmpi .eq v57_r0 c10_i32_60_r0
  let c0_i32_61_r0 : BitVec 32 := 0#32
  let v59_r0 : BitVec 32 := Scalar.select v58_r0 c0_i32_61_r0 v57_r0
  let c1_i32_63_r0 : BitVec 32 := 1#32
  let v61_r0 : BitVec 32 := Scalar.addi v59_r0 c1_i32_63_r0
  let v62_r0 : BitVec 32 := Scalar.select true_64_r0 v61_r0 v59_r0
  let c10_i32_65_r0 : BitVec 32 := 10#32
  let v63_r0 : BitVec 1 := Scalar.cmpi .eq v62_r0 c10_i32_65_r0
  let c0_i32_66_r0 : BitVec 32 := 0#32
  let v64_r0 : BitVec 32 := Scalar.select v63_r0 c0_i32_66_r0 v62_r0
  let c0_i32_67_r0 : BitVec 32 := 0#32
  let v65_r0 : BitVec 32 := Scalar.addi v64_r0 c0_i32_67_r0
  let c0_i32_62_r0 : BitVec 32 := 0#32
  let v60_r0 : BitVec 32 := Scalar.addi v59_r0 c0_i32_62_r0
  let v125_r0 : BitVec 1 := Scalar.cmpi .ne v65_r0 v60_r0
  let v126_r0 : BitVec 1 := Scalar.andi true_117_r0 v125_r0
  let true_108_r0 : BitVec 1 := 1#1
  let c0_i32_57_r0 : BitVec 32 := 0#32
  let v55_r0 : BitVec 32 := Scalar.addi v54_r0 c0_i32_57_r0
  let v110_r0 : BitVec 1 := Scalar.cmpi .ne v60_r0 v55_r0
  let v111_r0 : BitVec 1 := Scalar.andi true_108_r0 v110_r0
  let true_98_r0 : BitVec 1 := 1#1
  let c0_i32_97_r0 : BitVec 32 := 0#32
  let v95_r0 : BitVec 1 := Scalar.cmpi .ne v55_r0 c0_i32_97_r0
  let v96_r0 : BitVec 1 := Scalar.andi true_98_r0 v95_r0
  let c0_i32_88_r0 : BitVec 32 := 0#32
  let c1_i32_89_r0 : BitVec 32 := 1#32
  let v87_r0 : BitVec 32 := Scalar.addi c0_i32_88_r0 c1_i32_89_r0
  let c1_i32_101_r0 : BitVec 32 := 1#32
  let v100_r0 : BitVec 32 := Scalar.addi v87_r0 c1_i32_101_r0
  let v101_r0 : BitVec 32 := Scalar.select v96_r0 v100_r0 v87_r0
  let c1_i32_111_r0 : BitVec 32 := 1#32
  let v115_r0 : BitVec 32 := Scalar.addi v101_r0 c1_i32_111_r0
  let v116_r0 : BitVec 32 := Scalar.select v111_r0 v115_r0 v101_r0
  let c1_i32_120_r0 : BitVec 32 := 1#32
  let v130_r0 : BitVec 32 := Scalar.addi v116_r0 c1_i32_120_r0
  let v131_r0 : BitVec 32 := Scalar.select v126_r0 v130_r0 v116_r0
  let c6_i32_182_r0 : BitVec 32 := 6#32
  let v197_r0 : BitVec 32 := Scalar.remui v131_r0 c6_i32_182_r0
  ![v197_r0.toNat]
def k0_off22 : Fin 3 → Nat :=
  let true_117_r0 : BitVec 1 := 1#1
  let true_64_r0 : BitVec 1 := 1#1
  let true_59_r0 : BitVec 1 := 1#1
  let true_53_r0 : BitVec 1 := 1#1
  let c1_i32_55_r0 : BitVec 32 := 1#32
  let c0_i32_54_r0 : BitVec 32 := 0#32
  let v52_r0 : BitVec 32 := Scalar.select true_53_r0 c1_i32_55_r0 c0_i32_54_r0
  let c10_i32_r0 : BitVec 32 := 10#32
  let v53_r0 : BitVec 1 := Scalar.cmpi .eq v52_r0 c10_i32_r0
  let c0_i32_56_r0 : BitVec 32 := 0#32
  let v54_r0 : BitVec 32 := Scalar.select v53_r0 c0_i32_56_r0 v52_r0
  let c1_i32_58_r0 : BitVec 32 := 1#32
  let v56_r0 : BitVec 32 := Scalar.addi v54_r0 c1_i32_58_r0
  let v57_r0 : BitVec 32 := Scalar.select true_59_r0 v56_r0 v54_r0
  let c10_i32_60_r0 : BitVec 32 := 10#32
  let v58_r0 : BitVec 1 := Scalar.cmpi .eq v57_r0 c10_i32_60_r0
  let c0_i32_61_r0 : BitVec 32 := 0#32
  let v59_r0 : BitVec 32 := Scalar.select v58_r0 c0_i32_61_r0 v57_r0
  let c1_i32_63_r0 : BitVec 32 := 1#32
  let v61_r0 : BitVec 32 := Scalar.addi v59_r0 c1_i32_63_r0
  let v62_r0 : BitVec 32 := Scalar.select true_64_r0 v61_r0 v59_r0
  let c10_i32_65_r0 : BitVec 32 := 10#32
  let v63_r0 : BitVec 1 := Scalar.cmpi .eq v62_r0 c10_i32_65_r0
  let c0_i32_66_r0 : BitVec 32 := 0#32
  let v64_r0 : BitVec 32 := Scalar.select v63_r0 c0_i32_66_r0 v62_r0
  let c0_i32_67_r0 : BitVec 32 := 0#32
  let v65_r0 : BitVec 32 := Scalar.addi v64_r0 c0_i32_67_r0
  let c0_i32_62_r0 : BitVec 32 := 0#32
  let v60_r0 : BitVec 32 := Scalar.addi v59_r0 c0_i32_62_r0
  let v125_r0 : BitVec 1 := Scalar.cmpi .ne v65_r0 v60_r0
  let v126_r0 : BitVec 1 := Scalar.andi true_117_r0 v125_r0
  let true_108_r0 : BitVec 1 := 1#1
  let c0_i32_57_r0 : BitVec 32 := 0#32
  let v55_r0 : BitVec 32 := Scalar.addi v54_r0 c0_i32_57_r0
  let v110_r0 : BitVec 1 := Scalar.cmpi .ne v60_r0 v55_r0
  let v111_r0 : BitVec 1 := Scalar.andi true_108_r0 v110_r0
  let true_98_r0 : BitVec 1 := 1#1
  let c0_i32_97_r0 : BitVec 32 := 0#32
  let v95_r0 : BitVec 1 := Scalar.cmpi .ne v55_r0 c0_i32_97_r0
  let v96_r0 : BitVec 1 := Scalar.andi true_98_r0 v95_r0
  let c0_i32_88_r0 : BitVec 32 := 0#32
  let c1_i32_89_r0 : BitVec 32 := 1#32
  let v87_r0 : BitVec 32 := Scalar.addi c0_i32_88_r0 c1_i32_89_r0
  let c1_i32_101_r0 : BitVec 32 := 1#32
  let v100_r0 : BitVec 32 := Scalar.addi v87_r0 c1_i32_101_r0
  let v101_r0 : BitVec 32 := Scalar.select v96_r0 v100_r0 v87_r0
  let c1_i32_111_r0 : BitVec 32 := 1#32
  let v115_r0 : BitVec 32 := Scalar.addi v101_r0 c1_i32_111_r0
  let v116_r0 : BitVec 32 := Scalar.select v111_r0 v115_r0 v101_r0
  let c1_i32_120_r0 : BitVec 32 := 1#32
  let v130_r0 : BitVec 32 := Scalar.addi v116_r0 c1_i32_120_r0
  let v131_r0 : BitVec 32 := Scalar.select v126_r0 v130_r0 v116_r0
  let c6_i32_182_r0 : BitVec 32 := 6#32
  let v197_r0 : BitVec 32 := Scalar.remui v131_r0 c6_i32_182_r0
  let c0_i32_183_r0 : BitVec 32 := 0#32
  let c0_i32_184_r0 : BitVec 32 := 0#32
  ![v197_r0.toNat, 0, 0]
def k0_off23 : Fin 2 → Nat :=
  let c5000_i32_r0 : BitVec 32 := 5000#32
  let true_69_r0 : BitVec 1 := 1#1
  let true_64_r0 : BitVec 1 := 1#1
  let true_59_r0 : BitVec 1 := 1#1
  let true_53_r0 : BitVec 1 := 1#1
  let c1_i32_55_r0 : BitVec 32 := 1#32
  let c0_i32_54_r0 : BitVec 32 := 0#32
  let v52_r0 : BitVec 32 := Scalar.select true_53_r0 c1_i32_55_r0 c0_i32_54_r0
  let c10_i32_r0 : BitVec 32 := 10#32
  let v53_r0 : BitVec 1 := Scalar.cmpi .eq v52_r0 c10_i32_r0
  let c0_i32_56_r0 : BitVec 32 := 0#32
  let v54_r0 : BitVec 32 := Scalar.select v53_r0 c0_i32_56_r0 v52_r0
  let c1_i32_58_r0 : BitVec 32 := 1#32
  let v56_r0 : BitVec 32 := Scalar.addi v54_r0 c1_i32_58_r0
  let v57_r0 : BitVec 32 := Scalar.select true_59_r0 v56_r0 v54_r0
  let c10_i32_60_r0 : BitVec 32 := 10#32
  let v58_r0 : BitVec 1 := Scalar.cmpi .eq v57_r0 c10_i32_60_r0
  let c0_i32_61_r0 : BitVec 32 := 0#32
  let v59_r0 : BitVec 32 := Scalar.select v58_r0 c0_i32_61_r0 v57_r0
  let c1_i32_63_r0 : BitVec 32 := 1#32
  let v61_r0 : BitVec 32 := Scalar.addi v59_r0 c1_i32_63_r0
  let v62_r0 : BitVec 32 := Scalar.select true_64_r0 v61_r0 v59_r0
  let c10_i32_65_r0 : BitVec 32 := 10#32
  let v63_r0 : BitVec 1 := Scalar.cmpi .eq v62_r0 c10_i32_65_r0
  let c0_i32_66_r0 : BitVec 32 := 0#32
  let v64_r0 : BitVec 32 := Scalar.select v63_r0 c0_i32_66_r0 v62_r0
  let c1_i32_68_r0 : BitVec 32 := 1#32
  let v66_r0 : BitVec 32 := Scalar.addi v64_r0 c1_i32_68_r0
  let v67_r0 : BitVec 32 := Scalar.select true_69_r0 v66_r0 v64_r0
  let c10_i32_70_r0 : BitVec 32 := 10#32
  let v68_r0 : BitVec 1 := Scalar.cmpi .eq v67_r0 c10_i32_70_r0
  let c0_i32_71_r0 : BitVec 32 := 0#32
  let v69_r0 : BitVec 32 := Scalar.select v68_r0 c0_i32_71_r0 v67_r0
  let c0_i32_72_r0 : BitVec 32 := 0#32
  let v70_r0 : BitVec 32 := Scalar.addi v69_r0 c0_i32_72_r0
  let v198_r0 : BitVec 32 := Scalar.muli c5000_i32_r0 v70_r0
  let c0_i32_185_r0 : BitVec 32 := 0#32
  ![v198_r0.toNat, 0]
def k0_cond8 : BitVec 1 :=
  let true_131_r0 : BitVec 1 := 1#1
  let c10_i32_130_r0 : BitVec 32 := 10#32
  let true_69_r0 : BitVec 1 := 1#1
  let true_64_r0 : BitVec 1 := 1#1
  let true_59_r0 : BitVec 1 := 1#1
  let true_53_r0 : BitVec 1 := 1#1
  let c1_i32_55_r0 : BitVec 32 := 1#32
  let c0_i32_54_r0 : BitVec 32 := 0#32
  let v52_r0 : BitVec 32 := Scalar.select true_53_r0 c1_i32_55_r0 c0_i32_54_r0
  let c10_i32_r0 : BitVec 32 := 10#32
  let v53_r0 : BitVec 1 := Scalar.cmpi .eq v52_r0 c10_i32_r0
  let c0_i32_56_r0 : BitVec 32 := 0#32
  let v54_r0 : BitVec 32 := Scalar.select v53_r0 c0_i32_56_r0 v52_r0
  let c1_i32_58_r0 : BitVec 32 := 1#32
  let v56_r0 : BitVec 32 := Scalar.addi v54_r0 c1_i32_58_r0
  let v57_r0 : BitVec 32 := Scalar.select true_59_r0 v56_r0 v54_r0
  let c10_i32_60_r0 : BitVec 32 := 10#32
  let v58_r0 : BitVec 1 := Scalar.cmpi .eq v57_r0 c10_i32_60_r0
  let c0_i32_61_r0 : BitVec 32 := 0#32
  let v59_r0 : BitVec 32 := Scalar.select v58_r0 c0_i32_61_r0 v57_r0
  let c1_i32_63_r0 : BitVec 32 := 1#32
  let v61_r0 : BitVec 32 := Scalar.addi v59_r0 c1_i32_63_r0
  let v62_r0 : BitVec 32 := Scalar.select true_64_r0 v61_r0 v59_r0
  let c10_i32_65_r0 : BitVec 32 := 10#32
  let v63_r0 : BitVec 1 := Scalar.cmpi .eq v62_r0 c10_i32_65_r0
  let c0_i32_66_r0 : BitVec 32 := 0#32
  let v64_r0 : BitVec 32 := Scalar.select v63_r0 c0_i32_66_r0 v62_r0
  let c1_i32_68_r0 : BitVec 32 := 1#32
  let v66_r0 : BitVec 32 := Scalar.addi v64_r0 c1_i32_68_r0
  let v67_r0 : BitVec 32 := Scalar.select true_69_r0 v66_r0 v64_r0
  let c10_i32_70_r0 : BitVec 32 := 10#32
  let v68_r0 : BitVec 1 := Scalar.cmpi .eq v67_r0 c10_i32_70_r0
  let c0_i32_71_r0 : BitVec 32 := 0#32
  let v69_r0 : BitVec 32 := Scalar.select v68_r0 c0_i32_71_r0 v67_r0
  let c0_i32_72_r0 : BitVec 32 := 0#32
  let v70_r0 : BitVec 32 := Scalar.addi v69_r0 c0_i32_72_r0
  let v147_r0 : BitVec 32 := Scalar.addi c10_i32_130_r0 v70_r0
  let c10_i32_121_r0 : BitVec 32 := 10#32
  let c0_i32_67_r0 : BitVec 32 := 0#32
  let v65_r0 : BitVec 32 := Scalar.addi v64_r0 c0_i32_67_r0
  let v132_r0 : BitVec 32 := Scalar.addi c10_i32_121_r0 v65_r0
  let v148_r0 : BitVec 1 := Scalar.cmpi .ne v147_r0 v132_r0
  let v149_r0 : BitVec 1 := Scalar.andi true_131_r0 v148_r0
  let true_132_r0 : BitVec 1 := 1#1
  let v150_r0 : BitVec 1 := Scalar.andi v149_r0 true_132_r0
  let v151_r0 : BitVec 32 := Scalar.extui v150_r0
  let c0_i32_133_r0 : BitVec 32 := 0#32
  let v152_r0 : BitVec 1 := Scalar.cmpi .ne v151_r0 c0_i32_133_r0
  v152_r0

def k0_off24 : Fin 1 → Nat :=
  let true_122_r0 : BitVec 1 := 1#1
  let c10_i32_121_r0 : BitVec 32 := 10#32
  let true_64_r0 : BitVec 1 := 1#1
  let true_59_r0 : BitVec 1 := 1#1
  let true_53_r0 : BitVec 1 := 1#1
  let c1_i32_55_r0 : BitVec 32 := 1#32
  let c0_i32_54_r0 : BitVec 32 := 0#32
  let v52_r0 : BitVec 32 := Scalar.select true_53_r0 c1_i32_55_r0 c0_i32_54_r0
  let c10_i32_r0 : BitVec 32 := 10#32
  let v53_r0 : BitVec 1 := Scalar.cmpi .eq v52_r0 c10_i32_r0
  let c0_i32_56_r0 : BitVec 32 := 0#32
  let v54_r0 : BitVec 32 := Scalar.select v53_r0 c0_i32_56_r0 v52_r0
  let c1_i32_58_r0 : BitVec 32 := 1#32
  let v56_r0 : BitVec 32 := Scalar.addi v54_r0 c1_i32_58_r0
  let v57_r0 : BitVec 32 := Scalar.select true_59_r0 v56_r0 v54_r0
  let c10_i32_60_r0 : BitVec 32 := 10#32
  let v58_r0 : BitVec 1 := Scalar.cmpi .eq v57_r0 c10_i32_60_r0
  let c0_i32_61_r0 : BitVec 32 := 0#32
  let v59_r0 : BitVec 32 := Scalar.select v58_r0 c0_i32_61_r0 v57_r0
  let c1_i32_63_r0 : BitVec 32 := 1#32
  let v61_r0 : BitVec 32 := Scalar.addi v59_r0 c1_i32_63_r0
  let v62_r0 : BitVec 32 := Scalar.select true_64_r0 v61_r0 v59_r0
  let c10_i32_65_r0 : BitVec 32 := 10#32
  let v63_r0 : BitVec 1 := Scalar.cmpi .eq v62_r0 c10_i32_65_r0
  let c0_i32_66_r0 : BitVec 32 := 0#32
  let v64_r0 : BitVec 32 := Scalar.select v63_r0 c0_i32_66_r0 v62_r0
  let c0_i32_67_r0 : BitVec 32 := 0#32
  let v65_r0 : BitVec 32 := Scalar.addi v64_r0 c0_i32_67_r0
  let v132_r0 : BitVec 32 := Scalar.addi c10_i32_121_r0 v65_r0
  let c10_i32_112_r0 : BitVec 32 := 10#32
  let c0_i32_62_r0 : BitVec 32 := 0#32
  let v60_r0 : BitVec 32 := Scalar.addi v59_r0 c0_i32_62_r0
  let v117_r0 : BitVec 32 := Scalar.addi c10_i32_112_r0 v60_r0
  let v133_r0 : BitVec 1 := Scalar.cmpi .ne v132_r0 v117_r0
  let v134_r0 : BitVec 1 := Scalar.andi true_122_r0 v133_r0
  let true_113_r0 : BitVec 1 := 1#1
  let c10_i32_102_r0 : BitVec 32 := 10#32
  let c0_i32_57_r0 : BitVec 32 := 0#32
  let v55_r0 : BitVec 32 := Scalar.addi v54_r0 c0_i32_57_r0
  let v102_r0 : BitVec 32 := Scalar.addi c10_i32_102_r0 v55_r0
  let v118_r0 : BitVec 1 := Scalar.cmpi .ne v117_r0 v102_r0
  let v119_r0 : BitVec 1 := Scalar.andi true_113_r0 v118_r0
  let true_104_r0 : BitVec 1 := 1#1
  let c10_i32_103_r0 : BitVec 32 := 10#32
  let v103_r0 : BitVec 1 := Scalar.cmpi .ne v102_r0 c10_i32_103_r0
  let v104_r0 : BitVec 1 := Scalar.andi true_104_r0 v103_r0
  let c0_i32_95_r0 : BitVec 32 := 0#32
  let c1_i32_96_r0 : BitVec 32 := 1#32
  let v94_r0 : BitVec 32 := Scalar.addi c0_i32_95_r0 c1_i32_96_r0
  let c1_i32_107_r0 : BitVec 32 := 1#32
  let v108_r0 : BitVec 32 := Scalar.addi v94_r0 c1_i32_107_r0
  let v109_r0 : BitVec 32 := Scalar.select v104_r0 v108_r0 v94_r0
  let c1_i32_116_r0 : BitVec 32 := 1#32
  let v123_r0 : BitVec 32 := Scalar.addi v109_r0 c1_i32_116_r0
  let v124_r0 : BitVec 32 := Scalar.select v119_r0 v123_r0 v109_r0
  let c1_i32_125_r0 : BitVec 32 := 1#32
  let v138_r0 : BitVec 32 := Scalar.addi v124_r0 c1_i32_125_r0
  let v139_r0 : BitVec 32 := Scalar.select v134_r0 v138_r0 v124_r0
  let c6_i32_182_r0 : BitVec 32 := 6#32
  let v197_r0 : BitVec 32 := Scalar.remui v139_r0 c6_i32_182_r0
  ![v197_r0.toNat]
def k0_off25 : Fin 3 → Nat :=
  let true_122_r0 : BitVec 1 := 1#1
  let c10_i32_121_r0 : BitVec 32 := 10#32
  let true_64_r0 : BitVec 1 := 1#1
  let true_59_r0 : BitVec 1 := 1#1
  let true_53_r0 : BitVec 1 := 1#1
  let c1_i32_55_r0 : BitVec 32 := 1#32
  let c0_i32_54_r0 : BitVec 32 := 0#32
  let v52_r0 : BitVec 32 := Scalar.select true_53_r0 c1_i32_55_r0 c0_i32_54_r0
  let c10_i32_r0 : BitVec 32 := 10#32
  let v53_r0 : BitVec 1 := Scalar.cmpi .eq v52_r0 c10_i32_r0
  let c0_i32_56_r0 : BitVec 32 := 0#32
  let v54_r0 : BitVec 32 := Scalar.select v53_r0 c0_i32_56_r0 v52_r0
  let c1_i32_58_r0 : BitVec 32 := 1#32
  let v56_r0 : BitVec 32 := Scalar.addi v54_r0 c1_i32_58_r0
  let v57_r0 : BitVec 32 := Scalar.select true_59_r0 v56_r0 v54_r0
  let c10_i32_60_r0 : BitVec 32 := 10#32
  let v58_r0 : BitVec 1 := Scalar.cmpi .eq v57_r0 c10_i32_60_r0
  let c0_i32_61_r0 : BitVec 32 := 0#32
  let v59_r0 : BitVec 32 := Scalar.select v58_r0 c0_i32_61_r0 v57_r0
  let c1_i32_63_r0 : BitVec 32 := 1#32
  let v61_r0 : BitVec 32 := Scalar.addi v59_r0 c1_i32_63_r0
  let v62_r0 : BitVec 32 := Scalar.select true_64_r0 v61_r0 v59_r0
  let c10_i32_65_r0 : BitVec 32 := 10#32
  let v63_r0 : BitVec 1 := Scalar.cmpi .eq v62_r0 c10_i32_65_r0
  let c0_i32_66_r0 : BitVec 32 := 0#32
  let v64_r0 : BitVec 32 := Scalar.select v63_r0 c0_i32_66_r0 v62_r0
  let c0_i32_67_r0 : BitVec 32 := 0#32
  let v65_r0 : BitVec 32 := Scalar.addi v64_r0 c0_i32_67_r0
  let v132_r0 : BitVec 32 := Scalar.addi c10_i32_121_r0 v65_r0
  let c10_i32_112_r0 : BitVec 32 := 10#32
  let c0_i32_62_r0 : BitVec 32 := 0#32
  let v60_r0 : BitVec 32 := Scalar.addi v59_r0 c0_i32_62_r0
  let v117_r0 : BitVec 32 := Scalar.addi c10_i32_112_r0 v60_r0
  let v133_r0 : BitVec 1 := Scalar.cmpi .ne v132_r0 v117_r0
  let v134_r0 : BitVec 1 := Scalar.andi true_122_r0 v133_r0
  let true_113_r0 : BitVec 1 := 1#1
  let c10_i32_102_r0 : BitVec 32 := 10#32
  let c0_i32_57_r0 : BitVec 32 := 0#32
  let v55_r0 : BitVec 32 := Scalar.addi v54_r0 c0_i32_57_r0
  let v102_r0 : BitVec 32 := Scalar.addi c10_i32_102_r0 v55_r0
  let v118_r0 : BitVec 1 := Scalar.cmpi .ne v117_r0 v102_r0
  let v119_r0 : BitVec 1 := Scalar.andi true_113_r0 v118_r0
  let true_104_r0 : BitVec 1 := 1#1
  let c10_i32_103_r0 : BitVec 32 := 10#32
  let v103_r0 : BitVec 1 := Scalar.cmpi .ne v102_r0 c10_i32_103_r0
  let v104_r0 : BitVec 1 := Scalar.andi true_104_r0 v103_r0
  let c0_i32_95_r0 : BitVec 32 := 0#32
  let c1_i32_96_r0 : BitVec 32 := 1#32
  let v94_r0 : BitVec 32 := Scalar.addi c0_i32_95_r0 c1_i32_96_r0
  let c1_i32_107_r0 : BitVec 32 := 1#32
  let v108_r0 : BitVec 32 := Scalar.addi v94_r0 c1_i32_107_r0
  let v109_r0 : BitVec 32 := Scalar.select v104_r0 v108_r0 v94_r0
  let c1_i32_116_r0 : BitVec 32 := 1#32
  let v123_r0 : BitVec 32 := Scalar.addi v109_r0 c1_i32_116_r0
  let v124_r0 : BitVec 32 := Scalar.select v119_r0 v123_r0 v109_r0
  let c1_i32_125_r0 : BitVec 32 := 1#32
  let v138_r0 : BitVec 32 := Scalar.addi v124_r0 c1_i32_125_r0
  let v139_r0 : BitVec 32 := Scalar.select v134_r0 v138_r0 v124_r0
  let c6_i32_182_r0 : BitVec 32 := 6#32
  let v197_r0 : BitVec 32 := Scalar.remui v139_r0 c6_i32_182_r0
  let c0_i32_184_r0 : BitVec 32 := 0#32
  let c0_i32_185_r0 : BitVec 32 := 0#32
  ![v197_r0.toNat, 0, 0]
def k0_off26 : Fin 2 → Nat :=
  let c5000_i32_r0 : BitVec 32 := 5000#32
  let c10_i32_183_r0 : BitVec 32 := 10#32
  let true_69_r0 : BitVec 1 := 1#1
  let true_64_r0 : BitVec 1 := 1#1
  let true_59_r0 : BitVec 1 := 1#1
  let true_53_r0 : BitVec 1 := 1#1
  let c1_i32_55_r0 : BitVec 32 := 1#32
  let c0_i32_54_r0 : BitVec 32 := 0#32
  let v52_r0 : BitVec 32 := Scalar.select true_53_r0 c1_i32_55_r0 c0_i32_54_r0
  let c10_i32_r0 : BitVec 32 := 10#32
  let v53_r0 : BitVec 1 := Scalar.cmpi .eq v52_r0 c10_i32_r0
  let c0_i32_56_r0 : BitVec 32 := 0#32
  let v54_r0 : BitVec 32 := Scalar.select v53_r0 c0_i32_56_r0 v52_r0
  let c1_i32_58_r0 : BitVec 32 := 1#32
  let v56_r0 : BitVec 32 := Scalar.addi v54_r0 c1_i32_58_r0
  let v57_r0 : BitVec 32 := Scalar.select true_59_r0 v56_r0 v54_r0
  let c10_i32_60_r0 : BitVec 32 := 10#32
  let v58_r0 : BitVec 1 := Scalar.cmpi .eq v57_r0 c10_i32_60_r0
  let c0_i32_61_r0 : BitVec 32 := 0#32
  let v59_r0 : BitVec 32 := Scalar.select v58_r0 c0_i32_61_r0 v57_r0
  let c1_i32_63_r0 : BitVec 32 := 1#32
  let v61_r0 : BitVec 32 := Scalar.addi v59_r0 c1_i32_63_r0
  let v62_r0 : BitVec 32 := Scalar.select true_64_r0 v61_r0 v59_r0
  let c10_i32_65_r0 : BitVec 32 := 10#32
  let v63_r0 : BitVec 1 := Scalar.cmpi .eq v62_r0 c10_i32_65_r0
  let c0_i32_66_r0 : BitVec 32 := 0#32
  let v64_r0 : BitVec 32 := Scalar.select v63_r0 c0_i32_66_r0 v62_r0
  let c1_i32_68_r0 : BitVec 32 := 1#32
  let v66_r0 : BitVec 32 := Scalar.addi v64_r0 c1_i32_68_r0
  let v67_r0 : BitVec 32 := Scalar.select true_69_r0 v66_r0 v64_r0
  let c10_i32_70_r0 : BitVec 32 := 10#32
  let v68_r0 : BitVec 1 := Scalar.cmpi .eq v67_r0 c10_i32_70_r0
  let c0_i32_71_r0 : BitVec 32 := 0#32
  let v69_r0 : BitVec 32 := Scalar.select v68_r0 c0_i32_71_r0 v67_r0
  let c0_i32_72_r0 : BitVec 32 := 0#32
  let v70_r0 : BitVec 32 := Scalar.addi v69_r0 c0_i32_72_r0
  let v198_r0 : BitVec 32 := Scalar.addi c10_i32_183_r0 v70_r0
  let v199_r0 : BitVec 32 := Scalar.muli c5000_i32_r0 v198_r0
  let c0_i32_186_r0 : BitVec 32 := 0#32
  ![v199_r0.toNat, 0]
@[reducible] def k0_t1_loop : Scf.Loop 32 :=
  let c0_i32_138_r0 : BitVec 32 := 0#32
  let c10_i32_139_r0 : BitVec 32 := 10#32
  let v155_r0 : BitVec 32 := Scalar.addi c0_i32_138_r0 c10_i32_139_r0
  let c1_i32_140_r0 : BitVec 32 := 1#32
  ⟨c0_i32_138_r0, v155_r0, c1_i32_140_r0⟩
def k0_off27 (arg10_r0 : BitVec 32) : Fin 1 → Nat :=
  let c6_i32_286_r0 : BitVec 32 := 6#32
  let v359_r0 : BitVec 32 := Scalar.remui arg10_r0 c6_i32_286_r0
  ![v359_r0.toNat]
def k0_cond9 (k0_t1 : Fin k0_t1_loop.trips) (arg14_r0 : BitVec 32) : BitVec 1 :=
  let true_206_r0 : BitVec 1 := 1#1
  let true_201_r0 : BitVec 1 := 1#1
  let true_196_r0 : BitVec 1 := 1#1
  let true_191_r0 : BitVec 1 := 1#1
  let c1_i32_190_r0 : BitVec 32 := 1#32
  let v205_r0 : BitVec 32 := Scalar.addi arg14_r0 c1_i32_190_r0
  let v206_r0 : BitVec 32 := Scalar.select true_191_r0 v205_r0 arg14_r0
  let c10_i32_192_r0 : BitVec 32 := 10#32
  let v207_r0 : BitVec 1 := Scalar.cmpi .eq v206_r0 c10_i32_192_r0
  let c0_i32_193_r0 : BitVec 32 := 0#32
  let v208_r0 : BitVec 32 := Scalar.select v207_r0 c0_i32_193_r0 v206_r0
  let c1_i32_195_r0 : BitVec 32 := 1#32
  let v210_r0 : BitVec 32 := Scalar.addi v208_r0 c1_i32_195_r0
  let v211_r0 : BitVec 32 := Scalar.select true_196_r0 v210_r0 v208_r0
  let c10_i32_197_r0 : BitVec 32 := 10#32
  let v212_r0 : BitVec 1 := Scalar.cmpi .eq v211_r0 c10_i32_197_r0
  let c0_i32_198_r0 : BitVec 32 := 0#32
  let v213_r0 : BitVec 32 := Scalar.select v212_r0 c0_i32_198_r0 v211_r0
  let c1_i32_200_r0 : BitVec 32 := 1#32
  let v215_r0 : BitVec 32 := Scalar.addi v213_r0 c1_i32_200_r0
  let v216_r0 : BitVec 32 := Scalar.select true_201_r0 v215_r0 v213_r0
  let c10_i32_202_r0 : BitVec 32 := 10#32
  let v217_r0 : BitVec 1 := Scalar.cmpi .eq v216_r0 c10_i32_202_r0
  let c0_i32_203_r0 : BitVec 32 := 0#32
  let v218_r0 : BitVec 32 := Scalar.select v217_r0 c0_i32_203_r0 v216_r0
  let c1_i32_205_r0 : BitVec 32 := 1#32
  let v220_r0 : BitVec 32 := Scalar.addi v218_r0 c1_i32_205_r0
  let v221_r0 : BitVec 32 := Scalar.select true_206_r0 v220_r0 v218_r0
  let c10_i32_207_r0 : BitVec 32 := 10#32
  let v222_r0 : BitVec 1 := Scalar.cmpi .eq v221_r0 c10_i32_207_r0
  let c0_i32_208_r0 : BitVec 32 := 0#32
  let v223_r0 : BitVec 32 := Scalar.select v222_r0 c0_i32_208_r0 v221_r0
  let c0_i32_209_r0 : BitVec 32 := 0#32
  let v224_r0 : BitVec 32 := Scalar.addi v223_r0 c0_i32_209_r0
  let true_211_r0 : BitVec 1 := 1#1
  let c1_i32_210_r0 : BitVec 32 := 1#32
  let v225_r0 : BitVec 32 := Scalar.addi v223_r0 c1_i32_210_r0
  let v226_r0 : BitVec 32 := Scalar.select true_211_r0 v225_r0 v223_r0
  let c10_i32_212_r0 : BitVec 32 := 10#32
  let v227_r0 : BitVec 1 := Scalar.cmpi .eq v226_r0 c10_i32_212_r0
  let c0_i32_213_r0 : BitVec 32 := 0#32
  let v228_r0 : BitVec 32 := Scalar.select v227_r0 c0_i32_213_r0 v226_r0
  let c0_i32_214_r0 : BitVec 32 := 0#32
  let v229_r0 : BitVec 32 := Scalar.addi v228_r0 c0_i32_214_r0
  let v235_r0 : BitVec 1 := Scalar.cmpi .ne v224_r0 v229_r0
  let c0_i32_138_r0 : BitVec 32 := 0#32
  let c1_i32_140_r0 : BitVec 32 := 1#32
  let arg9_r0 : BitVec 32 := Scf.iv c0_i32_138_r0 c1_i32_140_r0 k0_t1
  let c5_i32_r0 : BitVec 32 := 5#32
  let v236_r0 : BitVec 1 := Scalar.cmpi .sge arg9_r0 c5_i32_r0
  let true_220_r0 : BitVec 1 := 1#1
  let v237_r0 : BitVec 1 := Scalar.xori v236_r0 true_220_r0
  let v238_r0 : BitVec 1 := Scalar.andi v235_r0 v237_r0
  let true_221_r0 : BitVec 1 := 1#1
  let v239_r0 : BitVec 1 := Scalar.andi v238_r0 true_221_r0
  let v240_r0 : BitVec 32 := Scalar.extui v239_r0
  let c0_i32_222_r0 : BitVec 32 := 0#32
  let v241_r0 : BitVec 1 := Scalar.cmpi .ne v240_r0 c0_i32_222_r0
  v241_r0

def k0_off28 (arg10_r0 : BitVec 32) : Fin 3 → Nat :=
  let c6_i32_286_r0 : BitVec 32 := 6#32
  let v359_r0 : BitVec 32 := Scalar.remui arg10_r0 c6_i32_286_r0
  let c0_i32_288_r0 : BitVec 32 := 0#32
  let c0_i32_289_r0 : BitVec 32 := 0#32
  ![v359_r0.toNat, 0, 0]
def k0_off29 (arg14_r0 : BitVec 32) : Fin 2 → Nat :=
  let c5000_i32_287_r0 : BitVec 32 := 5000#32
  let true_211_r0 : BitVec 1 := 1#1
  let true_206_r0 : BitVec 1 := 1#1
  let true_201_r0 : BitVec 1 := 1#1
  let true_196_r0 : BitVec 1 := 1#1
  let true_191_r0 : BitVec 1 := 1#1
  let c1_i32_190_r0 : BitVec 32 := 1#32
  let v205_r0 : BitVec 32 := Scalar.addi arg14_r0 c1_i32_190_r0
  let v206_r0 : BitVec 32 := Scalar.select true_191_r0 v205_r0 arg14_r0
  let c10_i32_192_r0 : BitVec 32 := 10#32
  let v207_r0 : BitVec 1 := Scalar.cmpi .eq v206_r0 c10_i32_192_r0
  let c0_i32_193_r0 : BitVec 32 := 0#32
  let v208_r0 : BitVec 32 := Scalar.select v207_r0 c0_i32_193_r0 v206_r0
  let c1_i32_195_r0 : BitVec 32 := 1#32
  let v210_r0 : BitVec 32 := Scalar.addi v208_r0 c1_i32_195_r0
  let v211_r0 : BitVec 32 := Scalar.select true_196_r0 v210_r0 v208_r0
  let c10_i32_197_r0 : BitVec 32 := 10#32
  let v212_r0 : BitVec 1 := Scalar.cmpi .eq v211_r0 c10_i32_197_r0
  let c0_i32_198_r0 : BitVec 32 := 0#32
  let v213_r0 : BitVec 32 := Scalar.select v212_r0 c0_i32_198_r0 v211_r0
  let c1_i32_200_r0 : BitVec 32 := 1#32
  let v215_r0 : BitVec 32 := Scalar.addi v213_r0 c1_i32_200_r0
  let v216_r0 : BitVec 32 := Scalar.select true_201_r0 v215_r0 v213_r0
  let c10_i32_202_r0 : BitVec 32 := 10#32
  let v217_r0 : BitVec 1 := Scalar.cmpi .eq v216_r0 c10_i32_202_r0
  let c0_i32_203_r0 : BitVec 32 := 0#32
  let v218_r0 : BitVec 32 := Scalar.select v217_r0 c0_i32_203_r0 v216_r0
  let c1_i32_205_r0 : BitVec 32 := 1#32
  let v220_r0 : BitVec 32 := Scalar.addi v218_r0 c1_i32_205_r0
  let v221_r0 : BitVec 32 := Scalar.select true_206_r0 v220_r0 v218_r0
  let c10_i32_207_r0 : BitVec 32 := 10#32
  let v222_r0 : BitVec 1 := Scalar.cmpi .eq v221_r0 c10_i32_207_r0
  let c0_i32_208_r0 : BitVec 32 := 0#32
  let v223_r0 : BitVec 32 := Scalar.select v222_r0 c0_i32_208_r0 v221_r0
  let c1_i32_210_r0 : BitVec 32 := 1#32
  let v225_r0 : BitVec 32 := Scalar.addi v223_r0 c1_i32_210_r0
  let v226_r0 : BitVec 32 := Scalar.select true_211_r0 v225_r0 v223_r0
  let c10_i32_212_r0 : BitVec 32 := 10#32
  let v227_r0 : BitVec 1 := Scalar.cmpi .eq v226_r0 c10_i32_212_r0
  let c0_i32_213_r0 : BitVec 32 := 0#32
  let v228_r0 : BitVec 32 := Scalar.select v227_r0 c0_i32_213_r0 v226_r0
  let c0_i32_214_r0 : BitVec 32 := 0#32
  let v229_r0 : BitVec 32 := Scalar.addi v228_r0 c0_i32_214_r0
  let v360_r0 : BitVec 32 := Scalar.muli c5000_i32_287_r0 v229_r0
  let c0_i32_290_r0 : BitVec 32 := 0#32
  ![v360_r0.toNat, 0]
def k0_off30 (arg12_r0 : BitVec 32) : Fin 1 → Nat :=
  let c6_i32_286_r0 : BitVec 32 := 6#32
  let v359_r0 : BitVec 32 := Scalar.remui arg12_r0 c6_i32_286_r0
  ![v359_r0.toNat]
def k0_cond10 (k0_t1 : Fin k0_t1_loop.trips) (arg14_r0 : BitVec 32) : BitVec 1 :=
  let c10_i32_225_r0 : BitVec 32 := 10#32
  let true_206_r0 : BitVec 1 := 1#1
  let true_201_r0 : BitVec 1 := 1#1
  let true_196_r0 : BitVec 1 := 1#1
  let true_191_r0 : BitVec 1 := 1#1
  let c1_i32_190_r0 : BitVec 32 := 1#32
  let v205_r0 : BitVec 32 := Scalar.addi arg14_r0 c1_i32_190_r0
  let v206_r0 : BitVec 32 := Scalar.select true_191_r0 v205_r0 arg14_r0
  let c10_i32_192_r0 : BitVec 32 := 10#32
  let v207_r0 : BitVec 1 := Scalar.cmpi .eq v206_r0 c10_i32_192_r0
  let c0_i32_193_r0 : BitVec 32 := 0#32
  let v208_r0 : BitVec 32 := Scalar.select v207_r0 c0_i32_193_r0 v206_r0
  let c1_i32_195_r0 : BitVec 32 := 1#32
  let v210_r0 : BitVec 32 := Scalar.addi v208_r0 c1_i32_195_r0
  let v211_r0 : BitVec 32 := Scalar.select true_196_r0 v210_r0 v208_r0
  let c10_i32_197_r0 : BitVec 32 := 10#32
  let v212_r0 : BitVec 1 := Scalar.cmpi .eq v211_r0 c10_i32_197_r0
  let c0_i32_198_r0 : BitVec 32 := 0#32
  let v213_r0 : BitVec 32 := Scalar.select v212_r0 c0_i32_198_r0 v211_r0
  let c1_i32_200_r0 : BitVec 32 := 1#32
  let v215_r0 : BitVec 32 := Scalar.addi v213_r0 c1_i32_200_r0
  let v216_r0 : BitVec 32 := Scalar.select true_201_r0 v215_r0 v213_r0
  let c10_i32_202_r0 : BitVec 32 := 10#32
  let v217_r0 : BitVec 1 := Scalar.cmpi .eq v216_r0 c10_i32_202_r0
  let c0_i32_203_r0 : BitVec 32 := 0#32
  let v218_r0 : BitVec 32 := Scalar.select v217_r0 c0_i32_203_r0 v216_r0
  let c1_i32_205_r0 : BitVec 32 := 1#32
  let v220_r0 : BitVec 32 := Scalar.addi v218_r0 c1_i32_205_r0
  let v221_r0 : BitVec 32 := Scalar.select true_206_r0 v220_r0 v218_r0
  let c10_i32_207_r0 : BitVec 32 := 10#32
  let v222_r0 : BitVec 1 := Scalar.cmpi .eq v221_r0 c10_i32_207_r0
  let c0_i32_208_r0 : BitVec 32 := 0#32
  let v223_r0 : BitVec 32 := Scalar.select v222_r0 c0_i32_208_r0 v221_r0
  let c0_i32_209_r0 : BitVec 32 := 0#32
  let v224_r0 : BitVec 32 := Scalar.addi v223_r0 c0_i32_209_r0
  let v245_r0 : BitVec 32 := Scalar.addi c10_i32_225_r0 v224_r0
  let c10_i32_226_r0 : BitVec 32 := 10#32
  let true_211_r0 : BitVec 1 := 1#1
  let c1_i32_210_r0 : BitVec 32 := 1#32
  let v225_r0 : BitVec 32 := Scalar.addi v223_r0 c1_i32_210_r0
  let v226_r0 : BitVec 32 := Scalar.select true_211_r0 v225_r0 v223_r0
  let c10_i32_212_r0 : BitVec 32 := 10#32
  let v227_r0 : BitVec 1 := Scalar.cmpi .eq v226_r0 c10_i32_212_r0
  let c0_i32_213_r0 : BitVec 32 := 0#32
  let v228_r0 : BitVec 32 := Scalar.select v227_r0 c0_i32_213_r0 v226_r0
  let c0_i32_214_r0 : BitVec 32 := 0#32
  let v229_r0 : BitVec 32 := Scalar.addi v228_r0 c0_i32_214_r0
  let v246_r0 : BitVec 32 := Scalar.addi c10_i32_226_r0 v229_r0
  let v247_r0 : BitVec 1 := Scalar.cmpi .ne v245_r0 v246_r0
  let c0_i32_138_r0 : BitVec 32 := 0#32
  let c1_i32_140_r0 : BitVec 32 := 1#32
  let arg9_r0 : BitVec 32 := Scf.iv c0_i32_138_r0 c1_i32_140_r0 k0_t1
  let c5_i32_227_r0 : BitVec 32 := 5#32
  let v248_r0 : BitVec 1 := Scalar.cmpi .sge arg9_r0 c5_i32_227_r0
  let true_228_r0 : BitVec 1 := 1#1
  let v249_r0 : BitVec 1 := Scalar.xori v248_r0 true_228_r0
  let v250_r0 : BitVec 1 := Scalar.andi v247_r0 v249_r0
  let true_229_r0 : BitVec 1 := 1#1
  let v251_r0 : BitVec 1 := Scalar.andi v250_r0 true_229_r0
  let v252_r0 : BitVec 32 := Scalar.extui v251_r0
  let c0_i32_230_r0 : BitVec 32 := 0#32
  let v253_r0 : BitVec 1 := Scalar.cmpi .ne v252_r0 c0_i32_230_r0
  v253_r0

def k0_off31 (arg12_r0 : BitVec 32) : Fin 3 → Nat :=
  let c6_i32_286_r0 : BitVec 32 := 6#32
  let v359_r0 : BitVec 32 := Scalar.remui arg12_r0 c6_i32_286_r0
  let c0_i32_289_r0 : BitVec 32 := 0#32
  let c0_i32_290_r0 : BitVec 32 := 0#32
  ![v359_r0.toNat, 0, 0]
def k0_off32 (arg14_r0 : BitVec 32) : Fin 2 → Nat :=
  let c5000_i32_288_r0 : BitVec 32 := 5000#32
  let c10_i32_287_r0 : BitVec 32 := 10#32
  let true_211_r0 : BitVec 1 := 1#1
  let true_206_r0 : BitVec 1 := 1#1
  let true_201_r0 : BitVec 1 := 1#1
  let true_196_r0 : BitVec 1 := 1#1
  let true_191_r0 : BitVec 1 := 1#1
  let c1_i32_190_r0 : BitVec 32 := 1#32
  let v205_r0 : BitVec 32 := Scalar.addi arg14_r0 c1_i32_190_r0
  let v206_r0 : BitVec 32 := Scalar.select true_191_r0 v205_r0 arg14_r0
  let c10_i32_192_r0 : BitVec 32 := 10#32
  let v207_r0 : BitVec 1 := Scalar.cmpi .eq v206_r0 c10_i32_192_r0
  let c0_i32_193_r0 : BitVec 32 := 0#32
  let v208_r0 : BitVec 32 := Scalar.select v207_r0 c0_i32_193_r0 v206_r0
  let c1_i32_195_r0 : BitVec 32 := 1#32
  let v210_r0 : BitVec 32 := Scalar.addi v208_r0 c1_i32_195_r0
  let v211_r0 : BitVec 32 := Scalar.select true_196_r0 v210_r0 v208_r0
  let c10_i32_197_r0 : BitVec 32 := 10#32
  let v212_r0 : BitVec 1 := Scalar.cmpi .eq v211_r0 c10_i32_197_r0
  let c0_i32_198_r0 : BitVec 32 := 0#32
  let v213_r0 : BitVec 32 := Scalar.select v212_r0 c0_i32_198_r0 v211_r0
  let c1_i32_200_r0 : BitVec 32 := 1#32
  let v215_r0 : BitVec 32 := Scalar.addi v213_r0 c1_i32_200_r0
  let v216_r0 : BitVec 32 := Scalar.select true_201_r0 v215_r0 v213_r0
  let c10_i32_202_r0 : BitVec 32 := 10#32
  let v217_r0 : BitVec 1 := Scalar.cmpi .eq v216_r0 c10_i32_202_r0
  let c0_i32_203_r0 : BitVec 32 := 0#32
  let v218_r0 : BitVec 32 := Scalar.select v217_r0 c0_i32_203_r0 v216_r0
  let c1_i32_205_r0 : BitVec 32 := 1#32
  let v220_r0 : BitVec 32 := Scalar.addi v218_r0 c1_i32_205_r0
  let v221_r0 : BitVec 32 := Scalar.select true_206_r0 v220_r0 v218_r0
  let c10_i32_207_r0 : BitVec 32 := 10#32
  let v222_r0 : BitVec 1 := Scalar.cmpi .eq v221_r0 c10_i32_207_r0
  let c0_i32_208_r0 : BitVec 32 := 0#32
  let v223_r0 : BitVec 32 := Scalar.select v222_r0 c0_i32_208_r0 v221_r0
  let c1_i32_210_r0 : BitVec 32 := 1#32
  let v225_r0 : BitVec 32 := Scalar.addi v223_r0 c1_i32_210_r0
  let v226_r0 : BitVec 32 := Scalar.select true_211_r0 v225_r0 v223_r0
  let c10_i32_212_r0 : BitVec 32 := 10#32
  let v227_r0 : BitVec 1 := Scalar.cmpi .eq v226_r0 c10_i32_212_r0
  let c0_i32_213_r0 : BitVec 32 := 0#32
  let v228_r0 : BitVec 32 := Scalar.select v227_r0 c0_i32_213_r0 v226_r0
  let c0_i32_214_r0 : BitVec 32 := 0#32
  let v229_r0 : BitVec 32 := Scalar.addi v228_r0 c0_i32_214_r0
  let v360_r0 : BitVec 32 := Scalar.addi c10_i32_287_r0 v229_r0
  let v361_r0 : BitVec 32 := Scalar.muli c5000_i32_288_r0 v360_r0
  let c0_i32_291_r0 : BitVec 32 := 0#32
  ![v361_r0.toNat, 0]
def k0_off33 (arg11_r0 : BitVec 32) : Fin 1 → Nat :=
  let c6_i32_287_r0 : BitVec 32 := 6#32
  let v360_r0 : BitVec 32 := Scalar.remui arg11_r0 c6_i32_287_r0
  ![v360_r0.toNat]
def k0_cond11 (k0_t1 : Fin k0_t1_loop.trips) (arg14_r0 : BitVec 32) : BitVec 1 :=
  let c0_i32_184_r0 : BitVec 32 := 0#32
  let v199_r0 : BitVec 32 := Scalar.addi arg14_r0 c0_i32_184_r0
  let true_186_r0 : BitVec 1 := 1#1
  let c1_i32_185_r0 : BitVec 32 := 1#32
  let v200_r0 : BitVec 32 := Scalar.subi arg14_r0 c1_i32_185_r0
  let v201_r0 : BitVec 32 := Scalar.select true_186_r0 v200_r0 arg14_r0
  let c_m1_i32_187_r0 : BitVec 32 := 4294967295#32
  let v202_r0 : BitVec 1 := Scalar.cmpi .eq v201_r0 c_m1_i32_187_r0
  let c9_i32_188_r0 : BitVec 32 := 9#32
  let v203_r0 : BitVec 32 := Scalar.select v202_r0 c9_i32_188_r0 v201_r0
  let c0_i32_189_r0 : BitVec 32 := 0#32
  let v204_r0 : BitVec 32 := Scalar.addi v203_r0 c0_i32_189_r0
  let v257_r0 : BitVec 1 := Scalar.cmpi .ne v199_r0 v204_r0
  let c0_i32_138_r0 : BitVec 32 := 0#32
  let c1_i32_140_r0 : BitVec 32 := 1#32
  let arg9_r0 : BitVec 32 := Scf.iv c0_i32_138_r0 c1_i32_140_r0 k0_t1
  let c0_i32_182_r0 : BitVec 32 := 0#32
  let v197_r0 : BitVec 1 := Scalar.cmpi .eq arg9_r0 c0_i32_182_r0
  let v258_r0 : BitVec 1 := Scalar.ori v257_r0 v197_r0
  let c0_i32_233_r0 : BitVec 32 := 0#32
  let v259_r0 : BitVec 1 := Scalar.cmpi .sge arg9_r0 c0_i32_233_r0
  let v260_r0 : BitVec 1 := Scalar.andi v258_r0 v259_r0
  let v261_r0 : BitVec 32 := Scalar.extui v260_r0
  let c0_i32_234_r0 : BitVec 32 := 0#32
  let v262_r0 : BitVec 1 := Scalar.cmpi .ne v261_r0 c0_i32_234_r0
  v262_r0

def k0_off34 (arg11_r0 : BitVec 32) : Fin 3 → Nat :=
  let c6_i32_287_r0 : BitVec 32 := 6#32
  let v360_r0 : BitVec 32 := Scalar.remui arg11_r0 c6_i32_287_r0
  let c0_i32_288_r0 : BitVec 32 := 0#32
  let c0_i32_289_r0 : BitVec 32 := 0#32
  ![v360_r0.toNat, 0, 0]
def k0_off35 (arg14_r0 : BitVec 32) : Fin 2 → Nat :=
  let c5000_i32_286_r0 : BitVec 32 := 5000#32
  let c0_i32_184_r0 : BitVec 32 := 0#32
  let v199_r0 : BitVec 32 := Scalar.addi arg14_r0 c0_i32_184_r0
  let v359_r0 : BitVec 32 := Scalar.muli c5000_i32_286_r0 v199_r0
  let c0_i32_290_r0 : BitVec 32 := 0#32
  ![v359_r0.toNat, 0]
def k0_off36 (arg13_r0 : BitVec 32) : Fin 1 → Nat :=
  let c6_i32_288_r0 : BitVec 32 := 6#32
  let v361_r0 : BitVec 32 := Scalar.remui arg13_r0 c6_i32_288_r0
  ![v361_r0.toNat]
def k0_cond12 (k0_t1 : Fin k0_t1_loop.trips) (arg14_r0 : BitVec 32) : BitVec 1 :=
  let c10_i32_235_r0 : BitVec 32 := 10#32
  let c0_i32_184_r0 : BitVec 32 := 0#32
  let v199_r0 : BitVec 32 := Scalar.addi arg14_r0 c0_i32_184_r0
  let v263_r0 : BitVec 32 := Scalar.addi c10_i32_235_r0 v199_r0
  let c10_i32_236_r0 : BitVec 32 := 10#32
  let true_186_r0 : BitVec 1 := 1#1
  let c1_i32_185_r0 : BitVec 32 := 1#32
  let v200_r0 : BitVec 32 := Scalar.subi arg14_r0 c1_i32_185_r0
  let v201_r0 : BitVec 32 := Scalar.select true_186_r0 v200_r0 arg14_r0
  let c_m1_i32_187_r0 : BitVec 32 := 4294967295#32
  let v202_r0 : BitVec 1 := Scalar.cmpi .eq v201_r0 c_m1_i32_187_r0
  let c9_i32_188_r0 : BitVec 32 := 9#32
  let v203_r0 : BitVec 32 := Scalar.select v202_r0 c9_i32_188_r0 v201_r0
  let c0_i32_189_r0 : BitVec 32 := 0#32
  let v204_r0 : BitVec 32 := Scalar.addi v203_r0 c0_i32_189_r0
  let v264_r0 : BitVec 32 := Scalar.addi c10_i32_236_r0 v204_r0
  let v265_r0 : BitVec 1 := Scalar.cmpi .ne v263_r0 v264_r0
  let c0_i32_138_r0 : BitVec 32 := 0#32
  let c1_i32_140_r0 : BitVec 32 := 1#32
  let arg9_r0 : BitVec 32 := Scf.iv c0_i32_138_r0 c1_i32_140_r0 k0_t1
  let c0_i32_182_r0 : BitVec 32 := 0#32
  let v197_r0 : BitVec 1 := Scalar.cmpi .eq arg9_r0 c0_i32_182_r0
  let v266_r0 : BitVec 1 := Scalar.ori v265_r0 v197_r0
  let c0_i32_237_r0 : BitVec 32 := 0#32
  let v267_r0 : BitVec 1 := Scalar.cmpi .sge arg9_r0 c0_i32_237_r0
  let v268_r0 : BitVec 1 := Scalar.andi v266_r0 v267_r0
  let v269_r0 : BitVec 32 := Scalar.extui v268_r0
  let c0_i32_238_r0 : BitVec 32 := 0#32
  let v270_r0 : BitVec 1 := Scalar.cmpi .ne v269_r0 c0_i32_238_r0
  v270_r0

def k0_off37 (arg13_r0 : BitVec 32) : Fin 3 → Nat :=
  let c6_i32_288_r0 : BitVec 32 := 6#32
  let v361_r0 : BitVec 32 := Scalar.remui arg13_r0 c6_i32_288_r0
  let c0_i32_289_r0 : BitVec 32 := 0#32
  let c0_i32_290_r0 : BitVec 32 := 0#32
  ![v361_r0.toNat, 0, 0]
def k0_off38 (arg14_r0 : BitVec 32) : Fin 2 → Nat :=
  let c5000_i32_287_r0 : BitVec 32 := 5000#32
  let c10_i32_286_r0 : BitVec 32 := 10#32
  let c0_i32_184_r0 : BitVec 32 := 0#32
  let v199_r0 : BitVec 32 := Scalar.addi arg14_r0 c0_i32_184_r0
  let v359_r0 : BitVec 32 := Scalar.addi c10_i32_286_r0 v199_r0
  let v360_r0 : BitVec 32 := Scalar.muli c5000_i32_287_r0 v359_r0
  let c0_i32_291_r0 : BitVec 32 := 0#32
  ![v360_r0.toNat, 0]
def k0_off39 (arg14_r0 : BitVec 32) : Fin 2 → Nat :=
  let c0_i32_288_r0 : BitVec 32 := 0#32
  let c0_i32_184_r0 : BitVec 32 := 0#32
  let v199_r0 : BitVec 32 := Scalar.addi arg14_r0 c0_i32_184_r0
  let c4_i32_r0 : BitVec 32 := 4#32
  let v273_r0 : BitVec 32 := Scalar.remsi v199_r0 c4_i32_r0
  ![0, v273_r0.toNat]
def k0_cond13 (arg14_r0 : BitVec 32) : BitVec 1 :=
  let c0_i32_184_r0 : BitVec 32 := 0#32
  let v199_r0 : BitVec 32 := Scalar.addi arg14_r0 c0_i32_184_r0
  let c4_i32_241_r0 : BitVec 32 := 4#32
  let v274_r0 : BitVec 1 := Scalar.cmpi .sge v199_r0 c4_i32_241_r0
  let v275_r0 : BitVec 32 := Scalar.extui v274_r0
  let c0_i32_242_r0 : BitVec 32 := 0#32
  let v276_r0 : BitVec 1 := Scalar.cmpi .ne v275_r0 c0_i32_242_r0
  v276_r0

def k0_off40 (arg14_r0 : BitVec 32) : Fin 2 → Nat :=
  let c0_i32_184_r0 : BitVec 32 := 0#32
  let v199_r0 : BitVec 32 := Scalar.addi arg14_r0 c0_i32_184_r0
  let c4_i32_286_r0 : BitVec 32 := 4#32
  let v359_r0 : BitVec 32 := Scalar.subi v199_r0 c4_i32_286_r0
  let c5000_i32_287_r0 : BitVec 32 := 5000#32
  let v360_r0 : BitVec 32 := Scalar.muli v359_r0 c5000_i32_287_r0
  let c0_i32_289_r0 : BitVec 32 := 0#32
  ![v360_r0.toNat, 0]
def k0_off41 (arg14_r0 : BitVec 32) : Fin 3 → Nat :=
  let c0_i32_184_r0 : BitVec 32 := 0#32
  let v199_r0 : BitVec 32 := Scalar.addi arg14_r0 c0_i32_184_r0
  let c4_i32_r0 : BitVec 32 := 4#32
  let v273_r0 : BitVec 32 := Scalar.remsi v199_r0 c4_i32_r0
  let c0_i32_290_r0 : BitVec 32 := 0#32
  let c0_i32_291_r0 : BitVec 32 := 0#32
  ![v273_r0.toNat, 0, 0]
def k0_off42 (arg14_r0 : BitVec 32) : Fin 2 → Nat :=
  let c1_i32_295_r0 : BitVec 32 := 1#32
  let c0_i32_184_r0 : BitVec 32 := 0#32
  let v199_r0 : BitVec 32 := Scalar.addi arg14_r0 c0_i32_184_r0
  let c4_i32_r0 : BitVec 32 := 4#32
  let v273_r0 : BitVec 32 := Scalar.remsi v199_r0 c4_i32_r0
  ![1, v273_r0.toNat]
def k0_off43 (arg14_r0 : BitVec 32) : Fin 2 → Nat :=
  let c10_i32_293_r0 : BitVec 32 := 10#32
  let c0_i32_184_r0 : BitVec 32 := 0#32
  let v199_r0 : BitVec 32 := Scalar.addi arg14_r0 c0_i32_184_r0
  let c4_i32_292_r0 : BitVec 32 := 4#32
  let v366_r0 : BitVec 32 := Scalar.subi v199_r0 c4_i32_292_r0
  let v367_r0 : BitVec 32 := Scalar.addi c10_i32_293_r0 v366_r0
  let c5000_i32_294_r0 : BitVec 32 := 5000#32
  let v368_r0 : BitVec 32 := Scalar.muli v367_r0 c5000_i32_294_r0
  let c0_i32_296_r0 : BitVec 32 := 0#32
  ![v368_r0.toNat, 0]
def k0_off44 (arg11_r0 : BitVec 32) : Fin 3 → Nat :=
  let c6_i32_239_r0 : BitVec 32 := 6#32
  let v271_r0 : BitVec 32 := Scalar.remui arg11_r0 c6_i32_239_r0
  let v277_r0 : Index := Scalar.indexCast v271_r0
  let c0_243_r0 : Index := 0#32
  let c0_244_r0 : Index := 0#32
  ![v277_r0.toNat, 0, 0]

def k0_chk2 (arg11_r0 : BitVec 32) : Prop :=
  (∀ a, (k0_off44 arg11_r0) a + S1x5000x128.size a ≤ S6x5000x128.size a)
theorem k0_off44_inb : ∀ (arg11_r0 : BitVec 32) (k0_hw2 : k0_chk2 arg11_r0), ∀ a, (k0_off44 arg11_r0) a + S1x5000x128.size a ≤ S6x5000x128.size a := fun arg11_r0 k0_hw2 => k0_hw2

def k0_off45 (arg14_r0 : BitVec 32) : Fin 3 → Nat :=
  let c0_i32_184_r0 : BitVec 32 := 0#32
  let v199_r0 : BitVec 32 := Scalar.addi arg14_r0 c0_i32_184_r0
  let c4_i32_r0 : BitVec 32 := 4#32
  let v273_r0 : BitVec 32 := Scalar.remsi v199_r0 c4_i32_r0
  let v290_r0 : Index := Scalar.indexCast v273_r0
  let c0_249_r0 : Index := 0#32
  let c0_250_r0 : Index := 0#32
  ![v290_r0.toNat, 0, 0]
def k0_off46 (arg14_r0 : BitVec 32) : Fin 2 → Nat :=
  let c0_i32_251_r0 : BitVec 32 := 0#32
  let c0_i32_184_r0 : BitVec 32 := 0#32
  let v199_r0 : BitVec 32 := Scalar.addi arg14_r0 c0_i32_184_r0
  let c4_i32_r0 : BitVec 32 := 4#32
  let v273_r0 : BitVec 32 := Scalar.remsi v199_r0 c4_i32_r0
  ![0, v273_r0.toNat]
def k0_off47 (arg14_r0 : BitVec 32) : Fin 2 → Nat :=
  let c0_i32_184_r0 : BitVec 32 := 0#32
  let v199_r0 : BitVec 32 := Scalar.addi arg14_r0 c0_i32_184_r0
  let c5000_i32_r0 : BitVec 32 := 5000#32
  let v294_r0 : BitVec 32 := Scalar.muli v199_r0 c5000_i32_r0
  let c0_i32_252_r0 : BitVec 32 := 0#32
  ![v294_r0.toNat, 0]
def k0_off48 (arg14_r0 : BitVec 32) : Fin 3 → Nat :=
  let c0_i32_184_r0 : BitVec 32 := 0#32
  let v199_r0 : BitVec 32 := Scalar.addi arg14_r0 c0_i32_184_r0
  let c4_i32_r0 : BitVec 32 := 4#32
  let v273_r0 : BitVec 32 := Scalar.remsi v199_r0 c4_i32_r0
  let c0_i32_253_r0 : BitVec 32 := 0#32
  let c0_i32_254_r0 : BitVec 32 := 0#32
  ![v273_r0.toNat, 0, 0]
def k0_off49 (arg13_r0 : BitVec 32) : Fin 3 → Nat :=
  let c6_i32_240_r0 : BitVec 32 := 6#32
  let v272_r0 : BitVec 32 := Scalar.remui arg13_r0 c6_i32_240_r0
  let v300_r0 : Index := Scalar.indexCast v272_r0
  let c0_255_r0 : Index := 0#32
  let c0_256_r0 : Index := 0#32
  ![v300_r0.toNat, 0, 0]

def k0_chk3 (arg13_r0 : BitVec 32) : Prop :=
  (∀ a, (k0_off49 arg13_r0) a + S1x5000x128.size a ≤ S6x5000x128.size a)
theorem k0_off49_inb : ∀ (arg13_r0 : BitVec 32) (k0_hw3 : k0_chk3 arg13_r0), ∀ a, (k0_off49 arg13_r0) a + S1x5000x128.size a ≤ S6x5000x128.size a := fun arg13_r0 k0_hw3 => k0_hw3

def k0_off50 (arg14_r0 : BitVec 32) : Fin 2 → Nat :=
  let c1_i32_266_r0 : BitVec 32 := 1#32
  let c0_i32_184_r0 : BitVec 32 := 0#32
  let v199_r0 : BitVec 32 := Scalar.addi arg14_r0 c0_i32_184_r0
  let c4_i32_r0 : BitVec 32 := 4#32
  let v273_r0 : BitVec 32 := Scalar.remsi v199_r0 c4_i32_r0
  ![1, v273_r0.toNat]
def k0_off51 (arg14_r0 : BitVec 32) : Fin 2 → Nat :=
  let c10_i32_264_r0 : BitVec 32 := 10#32
  let c0_i32_184_r0 : BitVec 32 := 0#32
  let v199_r0 : BitVec 32 := Scalar.addi arg14_r0 c0_i32_184_r0
  let v317_r0 : BitVec 32 := Scalar.addi c10_i32_264_r0 v199_r0
  let c5000_i32_265_r0 : BitVec 32 := 5000#32
  let v318_r0 : BitVec 32 := Scalar.muli v317_r0 c5000_i32_265_r0
  let c0_i32_267_r0 : BitVec 32 := 0#32
  ![v318_r0.toNat, 0]

def k0_chk1 (k0_t1 : Fin k0_t1_loop.trips) (arg10_r0 : BitVec 32) (arg11_r0 : BitVec 32) (arg12_r0 : BitVec 32) (arg13_r0 : BitVec 32) (arg14_r0 : BitVec 32) : Prop :=
  (∀ (k0_h9 : k0_cond9 k0_t1 arg14_r0 = 1#1), ∀ a, (k0_off27 arg10_r0) a + S1.size a ≤ S6.size a) ∧
  (∀ (k0_h9 : k0_cond9 k0_t1 arg14_r0 = 1#1), ∀ a, (k0_off28 arg10_r0) a + S1x5000x128.size a ≤ S6x5000x128.size a) ∧
  (∀ (k0_h9 : k0_cond9 k0_t1 arg14_r0 = 1#1), ∀ a, (k0_off29 arg14_r0) a + S5000x128.size a ≤ S100000x128.size a) ∧
  (∀ (k0_h10 : k0_cond10 k0_t1 arg14_r0 = 1#1), ∀ a, (k0_off30 arg12_r0) a + S1.size a ≤ S6.size a) ∧
  (∀ (k0_h10 : k0_cond10 k0_t1 arg14_r0 = 1#1), ∀ a, (k0_off31 arg12_r0) a + S1x5000x128.size a ≤ S6x5000x128.size a) ∧
  (∀ (k0_h10 : k0_cond10 k0_t1 arg14_r0 = 1#1), ∀ a, (k0_off32 arg14_r0) a + S5000x128.size a ≤ S100000x128.size a) ∧
  (∀ (k0_h11 : k0_cond11 k0_t1 arg14_r0 = 1#1), ∀ a, (k0_off33 arg11_r0) a + S1.size a ≤ S6.size a) ∧
  (∀ (k0_h11 : k0_cond11 k0_t1 arg14_r0 = 1#1), ∀ a, (k0_off34 arg11_r0) a + S1x5000x128.size a ≤ S6x5000x128.size a) ∧
  (∀ (k0_h11 : k0_cond11 k0_t1 arg14_r0 = 1#1), ∀ a, (k0_off35 arg14_r0) a + S5000x128.size a ≤ S100000x128.size a) ∧
  (∀ (k0_h12 : k0_cond12 k0_t1 arg14_r0 = 1#1), ∀ a, (k0_off36 arg13_r0) a + S1.size a ≤ S6.size a) ∧
  (∀ (k0_h12 : k0_cond12 k0_t1 arg14_r0 = 1#1), ∀ a, (k0_off37 arg13_r0) a + S1x5000x128.size a ≤ S6x5000x128.size a) ∧
  (∀ (k0_h12 : k0_cond12 k0_t1 arg14_r0 = 1#1), ∀ a, (k0_off38 arg14_r0) a + S5000x128.size a ≤ S100000x128.size a) ∧
  (∀ (k0_h13 : k0_cond13 arg14_r0 = 1#1), ∀ a, (k0_off39 arg14_r0) a + S1x1.size a ≤ S2x4.size a) ∧
  (∀ (k0_h13 : k0_cond13 arg14_r0 = 1#1), ∀ a, (k0_off40 arg14_r0) a + S5000x128.size a ≤ S100000x128.size a) ∧
  (∀ (k0_h13 : k0_cond13 arg14_r0 = 1#1), ∀ a, (k0_off41 arg14_r0) a + S1x5000x128.size a ≤ S4x5000x128.size a) ∧
  (∀ (k0_h13 : k0_cond13 arg14_r0 = 1#1), ∀ a, (k0_off42 arg14_r0) a + S1x1.size a ≤ S2x4.size a) ∧
  (∀ (k0_h13 : k0_cond13 arg14_r0 = 1#1), ∀ a, (k0_off43 arg14_r0) a + S5000x128.size a ≤ S100000x128.size a) ∧
  (∀ a, (k0_off45 arg14_r0) a + S1x5000x128.size a ≤ S4x5000x128.size a) ∧
  (∀ a, (k0_off46 arg14_r0) a + S1x1.size a ≤ S2x4.size a) ∧
  (∀ a, (k0_off47 arg14_r0) a + S5000x128.size a ≤ S100000x128.size a) ∧
  (∀ a, (k0_off48 arg14_r0) a + S1x5000x128.size a ≤ S4x5000x128.size a) ∧
  (∀ a, (k0_off50 arg14_r0) a + S1x1.size a ≤ S2x4.size a) ∧
  (∀ a, (k0_off51 arg14_r0) a + S5000x128.size a ≤ S100000x128.size a)
theorem k0_off27_inb : ∀ (k0_t1 : Fin k0_t1_loop.trips) (arg10_r0 : BitVec 32) (arg11_r0 : BitVec 32) (arg12_r0 : BitVec 32) (arg13_r0 : BitVec 32) (arg14_r0 : BitVec 32) (k0_hw1 : k0_chk1 k0_t1 arg10_r0 arg11_r0 arg12_r0 arg13_r0 arg14_r0), ∀ (k0_h9 : k0_cond9 k0_t1 arg14_r0 = 1#1), ∀ a, (k0_off27 arg10_r0) a + S1.size a ≤ S6.size a := fun k0_t1 arg10_r0 arg11_r0 arg12_r0 arg13_r0 arg14_r0 k0_hw1 k0_h9 => k0_hw1.1 k0_h9
theorem k0_off28_inb : ∀ (k0_t1 : Fin k0_t1_loop.trips) (arg10_r0 : BitVec 32) (arg11_r0 : BitVec 32) (arg12_r0 : BitVec 32) (arg13_r0 : BitVec 32) (arg14_r0 : BitVec 32) (k0_hw1 : k0_chk1 k0_t1 arg10_r0 arg11_r0 arg12_r0 arg13_r0 arg14_r0), ∀ (k0_h9 : k0_cond9 k0_t1 arg14_r0 = 1#1), ∀ a, (k0_off28 arg10_r0) a + S1x5000x128.size a ≤ S6x5000x128.size a := fun k0_t1 arg10_r0 arg11_r0 arg12_r0 arg13_r0 arg14_r0 k0_hw1 k0_h9 => k0_hw1.2.1 k0_h9
theorem k0_off29_inb : ∀ (k0_t1 : Fin k0_t1_loop.trips) (arg10_r0 : BitVec 32) (arg11_r0 : BitVec 32) (arg12_r0 : BitVec 32) (arg13_r0 : BitVec 32) (arg14_r0 : BitVec 32) (k0_hw1 : k0_chk1 k0_t1 arg10_r0 arg11_r0 arg12_r0 arg13_r0 arg14_r0), ∀ (k0_h9 : k0_cond9 k0_t1 arg14_r0 = 1#1), ∀ a, (k0_off29 arg14_r0) a + S5000x128.size a ≤ S100000x128.size a := fun k0_t1 arg10_r0 arg11_r0 arg12_r0 arg13_r0 arg14_r0 k0_hw1 k0_h9 => k0_hw1.2.2.1 k0_h9
theorem k0_off30_inb : ∀ (k0_t1 : Fin k0_t1_loop.trips) (arg10_r0 : BitVec 32) (arg11_r0 : BitVec 32) (arg12_r0 : BitVec 32) (arg13_r0 : BitVec 32) (arg14_r0 : BitVec 32) (k0_hw1 : k0_chk1 k0_t1 arg10_r0 arg11_r0 arg12_r0 arg13_r0 arg14_r0), ∀ (k0_h10 : k0_cond10 k0_t1 arg14_r0 = 1#1), ∀ a, (k0_off30 arg12_r0) a + S1.size a ≤ S6.size a := fun k0_t1 arg10_r0 arg11_r0 arg12_r0 arg13_r0 arg14_r0 k0_hw1 k0_h10 => k0_hw1.2.2.2.1 k0_h10
theorem k0_off31_inb : ∀ (k0_t1 : Fin k0_t1_loop.trips) (arg10_r0 : BitVec 32) (arg11_r0 : BitVec 32) (arg12_r0 : BitVec 32) (arg13_r0 : BitVec 32) (arg14_r0 : BitVec 32) (k0_hw1 : k0_chk1 k0_t1 arg10_r0 arg11_r0 arg12_r0 arg13_r0 arg14_r0), ∀ (k0_h10 : k0_cond10 k0_t1 arg14_r0 = 1#1), ∀ a, (k0_off31 arg12_r0) a + S1x5000x128.size a ≤ S6x5000x128.size a := fun k0_t1 arg10_r0 arg11_r0 arg12_r0 arg13_r0 arg14_r0 k0_hw1 k0_h10 => k0_hw1.2.2.2.2.1 k0_h10
theorem k0_off32_inb : ∀ (k0_t1 : Fin k0_t1_loop.trips) (arg10_r0 : BitVec 32) (arg11_r0 : BitVec 32) (arg12_r0 : BitVec 32) (arg13_r0 : BitVec 32) (arg14_r0 : BitVec 32) (k0_hw1 : k0_chk1 k0_t1 arg10_r0 arg11_r0 arg12_r0 arg13_r0 arg14_r0), ∀ (k0_h10 : k0_cond10 k0_t1 arg14_r0 = 1#1), ∀ a, (k0_off32 arg14_r0) a + S5000x128.size a ≤ S100000x128.size a := fun k0_t1 arg10_r0 arg11_r0 arg12_r0 arg13_r0 arg14_r0 k0_hw1 k0_h10 => k0_hw1.2.2.2.2.2.1 k0_h10
theorem k0_off33_inb : ∀ (k0_t1 : Fin k0_t1_loop.trips) (arg10_r0 : BitVec 32) (arg11_r0 : BitVec 32) (arg12_r0 : BitVec 32) (arg13_r0 : BitVec 32) (arg14_r0 : BitVec 32) (k0_hw1 : k0_chk1 k0_t1 arg10_r0 arg11_r0 arg12_r0 arg13_r0 arg14_r0), ∀ (k0_h11 : k0_cond11 k0_t1 arg14_r0 = 1#1), ∀ a, (k0_off33 arg11_r0) a + S1.size a ≤ S6.size a := fun k0_t1 arg10_r0 arg11_r0 arg12_r0 arg13_r0 arg14_r0 k0_hw1 k0_h11 => k0_hw1.2.2.2.2.2.2.1 k0_h11
theorem k0_off34_inb : ∀ (k0_t1 : Fin k0_t1_loop.trips) (arg10_r0 : BitVec 32) (arg11_r0 : BitVec 32) (arg12_r0 : BitVec 32) (arg13_r0 : BitVec 32) (arg14_r0 : BitVec 32) (k0_hw1 : k0_chk1 k0_t1 arg10_r0 arg11_r0 arg12_r0 arg13_r0 arg14_r0), ∀ (k0_h11 : k0_cond11 k0_t1 arg14_r0 = 1#1), ∀ a, (k0_off34 arg11_r0) a + S1x5000x128.size a ≤ S6x5000x128.size a := fun k0_t1 arg10_r0 arg11_r0 arg12_r0 arg13_r0 arg14_r0 k0_hw1 k0_h11 => k0_hw1.2.2.2.2.2.2.2.1 k0_h11
theorem k0_off35_inb : ∀ (k0_t1 : Fin k0_t1_loop.trips) (arg10_r0 : BitVec 32) (arg11_r0 : BitVec 32) (arg12_r0 : BitVec 32) (arg13_r0 : BitVec 32) (arg14_r0 : BitVec 32) (k0_hw1 : k0_chk1 k0_t1 arg10_r0 arg11_r0 arg12_r0 arg13_r0 arg14_r0), ∀ (k0_h11 : k0_cond11 k0_t1 arg14_r0 = 1#1), ∀ a, (k0_off35 arg14_r0) a + S5000x128.size a ≤ S100000x128.size a := fun k0_t1 arg10_r0 arg11_r0 arg12_r0 arg13_r0 arg14_r0 k0_hw1 k0_h11 => k0_hw1.2.2.2.2.2.2.2.2.1 k0_h11
theorem k0_off36_inb : ∀ (k0_t1 : Fin k0_t1_loop.trips) (arg10_r0 : BitVec 32) (arg11_r0 : BitVec 32) (arg12_r0 : BitVec 32) (arg13_r0 : BitVec 32) (arg14_r0 : BitVec 32) (k0_hw1 : k0_chk1 k0_t1 arg10_r0 arg11_r0 arg12_r0 arg13_r0 arg14_r0), ∀ (k0_h12 : k0_cond12 k0_t1 arg14_r0 = 1#1), ∀ a, (k0_off36 arg13_r0) a + S1.size a ≤ S6.size a := fun k0_t1 arg10_r0 arg11_r0 arg12_r0 arg13_r0 arg14_r0 k0_hw1 k0_h12 => k0_hw1.2.2.2.2.2.2.2.2.2.1 k0_h12
theorem k0_off37_inb : ∀ (k0_t1 : Fin k0_t1_loop.trips) (arg10_r0 : BitVec 32) (arg11_r0 : BitVec 32) (arg12_r0 : BitVec 32) (arg13_r0 : BitVec 32) (arg14_r0 : BitVec 32) (k0_hw1 : k0_chk1 k0_t1 arg10_r0 arg11_r0 arg12_r0 arg13_r0 arg14_r0), ∀ (k0_h12 : k0_cond12 k0_t1 arg14_r0 = 1#1), ∀ a, (k0_off37 arg13_r0) a + S1x5000x128.size a ≤ S6x5000x128.size a := fun k0_t1 arg10_r0 arg11_r0 arg12_r0 arg13_r0 arg14_r0 k0_hw1 k0_h12 => k0_hw1.2.2.2.2.2.2.2.2.2.2.1 k0_h12
theorem k0_off38_inb : ∀ (k0_t1 : Fin k0_t1_loop.trips) (arg10_r0 : BitVec 32) (arg11_r0 : BitVec 32) (arg12_r0 : BitVec 32) (arg13_r0 : BitVec 32) (arg14_r0 : BitVec 32) (k0_hw1 : k0_chk1 k0_t1 arg10_r0 arg11_r0 arg12_r0 arg13_r0 arg14_r0), ∀ (k0_h12 : k0_cond12 k0_t1 arg14_r0 = 1#1), ∀ a, (k0_off38 arg14_r0) a + S5000x128.size a ≤ S100000x128.size a := fun k0_t1 arg10_r0 arg11_r0 arg12_r0 arg13_r0 arg14_r0 k0_hw1 k0_h12 => k0_hw1.2.2.2.2.2.2.2.2.2.2.2.1 k0_h12
theorem k0_off39_inb : ∀ (k0_t1 : Fin k0_t1_loop.trips) (arg10_r0 : BitVec 32) (arg11_r0 : BitVec 32) (arg12_r0 : BitVec 32) (arg13_r0 : BitVec 32) (arg14_r0 : BitVec 32) (k0_hw1 : k0_chk1 k0_t1 arg10_r0 arg11_r0 arg12_r0 arg13_r0 arg14_r0), ∀ (k0_h13 : k0_cond13 arg14_r0 = 1#1), ∀ a, (k0_off39 arg14_r0) a + S1x1.size a ≤ S2x4.size a := fun k0_t1 arg10_r0 arg11_r0 arg12_r0 arg13_r0 arg14_r0 k0_hw1 k0_h13 => k0_hw1.2.2.2.2.2.2.2.2.2.2.2.2.1 k0_h13
theorem k0_off40_inb : ∀ (k0_t1 : Fin k0_t1_loop.trips) (arg10_r0 : BitVec 32) (arg11_r0 : BitVec 32) (arg12_r0 : BitVec 32) (arg13_r0 : BitVec 32) (arg14_r0 : BitVec 32) (k0_hw1 : k0_chk1 k0_t1 arg10_r0 arg11_r0 arg12_r0 arg13_r0 arg14_r0), ∀ (k0_h13 : k0_cond13 arg14_r0 = 1#1), ∀ a, (k0_off40 arg14_r0) a + S5000x128.size a ≤ S100000x128.size a := fun k0_t1 arg10_r0 arg11_r0 arg12_r0 arg13_r0 arg14_r0 k0_hw1 k0_h13 => k0_hw1.2.2.2.2.2.2.2.2.2.2.2.2.2.1 k0_h13
theorem k0_off41_inb : ∀ (k0_t1 : Fin k0_t1_loop.trips) (arg10_r0 : BitVec 32) (arg11_r0 : BitVec 32) (arg12_r0 : BitVec 32) (arg13_r0 : BitVec 32) (arg14_r0 : BitVec 32) (k0_hw1 : k0_chk1 k0_t1 arg10_r0 arg11_r0 arg12_r0 arg13_r0 arg14_r0), ∀ (k0_h13 : k0_cond13 arg14_r0 = 1#1), ∀ a, (k0_off41 arg14_r0) a + S1x5000x128.size a ≤ S4x5000x128.size a := fun k0_t1 arg10_r0 arg11_r0 arg12_r0 arg13_r0 arg14_r0 k0_hw1 k0_h13 => k0_hw1.2.2.2.2.2.2.2.2.2.2.2.2.2.2.1 k0_h13
theorem k0_off42_inb : ∀ (k0_t1 : Fin k0_t1_loop.trips) (arg10_r0 : BitVec 32) (arg11_r0 : BitVec 32) (arg12_r0 : BitVec 32) (arg13_r0 : BitVec 32) (arg14_r0 : BitVec 32) (k0_hw1 : k0_chk1 k0_t1 arg10_r0 arg11_r0 arg12_r0 arg13_r0 arg14_r0), ∀ (k0_h13 : k0_cond13 arg14_r0 = 1#1), ∀ a, (k0_off42 arg14_r0) a + S1x1.size a ≤ S2x4.size a := fun k0_t1 arg10_r0 arg11_r0 arg12_r0 arg13_r0 arg14_r0 k0_hw1 k0_h13 => k0_hw1.2.2.2.2.2.2.2.2.2.2.2.2.2.2.2.1 k0_h13
theorem k0_off43_inb : ∀ (k0_t1 : Fin k0_t1_loop.trips) (arg10_r0 : BitVec 32) (arg11_r0 : BitVec 32) (arg12_r0 : BitVec 32) (arg13_r0 : BitVec 32) (arg14_r0 : BitVec 32) (k0_hw1 : k0_chk1 k0_t1 arg10_r0 arg11_r0 arg12_r0 arg13_r0 arg14_r0), ∀ (k0_h13 : k0_cond13 arg14_r0 = 1#1), ∀ a, (k0_off43 arg14_r0) a + S5000x128.size a ≤ S100000x128.size a := fun k0_t1 arg10_r0 arg11_r0 arg12_r0 arg13_r0 arg14_r0 k0_hw1 k0_h13 => k0_hw1.2.2.2.2.2.2.2.2.2.2.2.2.2.2.2.2.1 k0_h13
theorem k0_off45_inb : ∀ (k0_t1 : Fin k0_t1_loop.trips) (arg10_r0 : BitVec 32) (arg11_r0 : BitVec 32) (arg12_r0 : BitVec 32) (arg13_r0 : BitVec 32) (arg14_r0 : BitVec 32) (k0_hw1 : k0_chk1 k0_t1 arg10_r0 arg11_r0 arg12_r0 arg13_r0 arg14_r0), ∀ a, (k0_off45 arg14_r0) a + S1x5000x128.size a ≤ S4x5000x128.size a := fun k0_t1 arg10_r0 arg11_r0 arg12_r0 arg13_r0 arg14_r0 k0_hw1 => k0_hw1.2.2.2.2.2.2.2.2.2.2.2.2.2.2.2.2.2.1
theorem k0_off46_inb : ∀ (k0_t1 : Fin k0_t1_loop.trips) (arg10_r0 : BitVec 32) (arg11_r0 : BitVec 32) (arg12_r0 : BitVec 32) (arg13_r0 : BitVec 32) (arg14_r0 : BitVec 32) (k0_hw1 : k0_chk1 k0_t1 arg10_r0 arg11_r0 arg12_r0 arg13_r0 arg14_r0), ∀ a, (k0_off46 arg14_r0) a + S1x1.size a ≤ S2x4.size a := fun k0_t1 arg10_r0 arg11_r0 arg12_r0 arg13_r0 arg14_r0 k0_hw1 => k0_hw1.2.2.2.2.2.2.2.2.2.2.2.2.2.2.2.2.2.2.1
theorem k0_off47_inb : ∀ (k0_t1 : Fin k0_t1_loop.trips) (arg10_r0 : BitVec 32) (arg11_r0 : BitVec 32) (arg12_r0 : BitVec 32) (arg13_r0 : BitVec 32) (arg14_r0 : BitVec 32) (k0_hw1 : k0_chk1 k0_t1 arg10_r0 arg11_r0 arg12_r0 arg13_r0 arg14_r0), ∀ a, (k0_off47 arg14_r0) a + S5000x128.size a ≤ S100000x128.size a := fun k0_t1 arg10_r0 arg11_r0 arg12_r0 arg13_r0 arg14_r0 k0_hw1 => k0_hw1.2.2.2.2.2.2.2.2.2.2.2.2.2.2.2.2.2.2.2.1
theorem k0_off48_inb : ∀ (k0_t1 : Fin k0_t1_loop.trips) (arg10_r0 : BitVec 32) (arg11_r0 : BitVec 32) (arg12_r0 : BitVec 32) (arg13_r0 : BitVec 32) (arg14_r0 : BitVec 32) (k0_hw1 : k0_chk1 k0_t1 arg10_r0 arg11_r0 arg12_r0 arg13_r0 arg14_r0), ∀ a, (k0_off48 arg14_r0) a + S1x5000x128.size a ≤ S4x5000x128.size a := fun k0_t1 arg10_r0 arg11_r0 arg12_r0 arg13_r0 arg14_r0 k0_hw1 => k0_hw1.2.2.2.2.2.2.2.2.2.2.2.2.2.2.2.2.2.2.2.2.1
theorem k0_off50_inb : ∀ (k0_t1 : Fin k0_t1_loop.trips) (arg10_r0 : BitVec 32) (arg11_r0 : BitVec 32) (arg12_r0 : BitVec 32) (arg13_r0 : BitVec 32) (arg14_r0 : BitVec 32) (k0_hw1 : k0_chk1 k0_t1 arg10_r0 arg11_r0 arg12_r0 arg13_r0 arg14_r0), ∀ a, (k0_off50 arg14_r0) a + S1x1.size a ≤ S2x4.size a := fun k0_t1 arg10_r0 arg11_r0 arg12_r0 arg13_r0 arg14_r0 k0_hw1 => k0_hw1.2.2.2.2.2.2.2.2.2.2.2.2.2.2.2.2.2.2.2.2.2.1
theorem k0_off51_inb : ∀ (k0_t1 : Fin k0_t1_loop.trips) (arg10_r0 : BitVec 32) (arg11_r0 : BitVec 32) (arg12_r0 : BitVec 32) (arg13_r0 : BitVec 32) (arg14_r0 : BitVec 32) (k0_hw1 : k0_chk1 k0_t1 arg10_r0 arg11_r0 arg12_r0 arg13_r0 arg14_r0), ∀ a, (k0_off51 arg14_r0) a + S5000x128.size a ≤ S100000x128.size a := fun k0_t1 arg10_r0 arg11_r0 arg12_r0 arg13_r0 arg14_r0 k0_hw1 => k0_hw1.2.2.2.2.2.2.2.2.2.2.2.2.2.2.2.2.2.2.2.2.2.2

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S100000x128 : Shape := ⟨2, ![100000, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S100000x256 : Shape := ⟨2, ![100000, 256]⟩
abbrev S1x256 : Shape := ⟨2, ![1, 256]⟩
abbrev S_ : Shape := ⟨0, ![]⟩
abbrev S1x128 : Shape := ⟨2, ![1, 128]⟩

abbrev nBuf : Space → Nat
  | .hbm => 16
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S100000x256, .f32⟩
  | .hbm, ⟨6, _⟩ => ⟨S1x256, .f32⟩
  | .hbm, ⟨7, _⟩ => ⟨S100000x256, .f32⟩
  | .hbm, ⟨8, _⟩ => ⟨S100000x256, .f32⟩
  | .hbm, ⟨9, _⟩ => ⟨S_, .f32⟩
  | .hbm, ⟨10, _⟩ => ⟨S100000x256, .f32⟩
  | .hbm, ⟨11, _⟩ => ⟨S100000x256, .f32⟩
  | .hbm, ⟨12, _⟩ => ⟨S100000x128, .f32⟩
  | .hbm, ⟨13, _⟩ => ⟨S1x128, .f32⟩
  | .hbm, ⟨14, _⟩ => ⟨S100000x128, .f32⟩
  | .hbm, ⟨15, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Proof.Same.lean ====
/-
  The kernel as written and the kernel at the extended reals are one program: what is proved of the runs of the second,
  for any float values, is carried to the first.
-/
module

public import proofs.«01_k».proof.Proof.Gen.Kernel.Launch
public import proofs.«01_k».proof.Proof.Gen.KernelIdeal.Launch
public import Idealize.ShloMosaic.Adequacy

@[expose] public section

set_option maxRecDepth 100000
set_option maxHeartbeats 4000000

namespace Cert.Proof.Mlp

open Idealize.ShloMosaic Idealize.ShloMosaic.TcCoe

variable {F : FTy → Type} [FloatOps F]

/-- The two programs' kernel bodies are the same, -/
theorem defs0_same [h : Cert.Kernel.Facts] [h' : Cert.KernelIdeal.Facts] : Cert.Kernel.defs₀ (F := F) = Cert.KernelIdeal.defs₀ (F := F) := by
  refine congrArg (Defs.onTc (nD := Cert.KernelIdeal.nD) (τ := Cert.KernelIdeal.τ) (sig := Cert.KernelIdeal.sig) (Val := Elt F) (Λ := Cert.KernelIdeal.Λ₀)) (funext fun ℓ => funext fun a => ?_)
  revert a
  refine Fin.cases ?_ (fun i => i.elim0) ℓ
  rintro ⟨t, s⟩
  rfl
/-- so are their body tables, -/
theorem defs_same [h : Cert.Kernel.Facts] [h' : Cert.KernelIdeal.Facts] : Cert.Kernel.defs (F := F) = Cert.KernelIdeal.defs (F := F) :=
  congrArg (Pipeline.defs Cert.KernelIdeal.pcfgs) defs0_same
/-- and a run of the one is a run of the other. -/
theorem run_same [h : Cert.Kernel.Facts] [h' : Cert.KernelIdeal.Facts] (s P)
    (H : θ_run (Cert.KernelIdeal.defs (F := F)) (onTc (τ := Cert.KernelIdeal.τ) (Cert.KernelIdeal.main (F := F))) s P) :
    θ_run (Cert.Kernel.defs (F := F)) (onTc (τ := Cert.Kernel.τ) (Cert.Kernel.main (F := F))) s P := by
  rw [defs_same]; exact H

end Cert.Proof.Mlp
-- ==== Proof.Names.lean ====
/-
  Names for what the kernel's transfers move: block `b` of the operand and of the result (5000 rows each), the six
  input slots and the four output slots of either stream, and the semaphores that go with them; and the equations
  saying that every slice the kernel takes is one of these.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Mlp

open Cert.KernelIdeal Cert.KernelIdeal.Gen
open Idealize.ShloMosaic
open Idealize.ShloMosaic.TcCoe Idealize.ShloMosaic.Tactic

/-! ## The buffers -/

abbrev xM : Memref sig .tc .hbm S100000x128 .f32 := Memref.whole main_arg0
abbrev oM : Memref sig .tc .hbm S100000x128 .f32 := Memref.whole main_v0
abbrev rbufA : Memref sig .tc .vmem S6x5000x128 .f32 := Memref.whole cc0_scoped0
abbrev rbufB : Memref sig .tc .vmem S6x5000x128 .f32 := Memref.whole cc0_scoped2
abbrev wbufA : Memref sig .tc .vmem S4x5000x128 .f32 := Memref.whole cc0_scratch0
abbrev wbufB : Memref sig .tc .vmem S4x5000x128 .f32 := Memref.whole cc0_scratch1

/-! ## Offsets -/

abbrev blkOff (b : Fin 20) : Fin 2 → Nat := ![5000 * b.val, 0]
theorem blkOff_inb (b : Fin 20) : ∀ a, blkOff b a + S5000x128.size a ≤ S100000x128.size a := by
  have := b.isLt; intro a; fin_cases a
  · show 5000 * b.val + 5000 ≤ 100000; omega
  · show 0 + 128 ≤ 128; omega
abbrev rOff (s : Fin 6) : Fin 3 → Nat := ![s.val, 0, 0]
theorem rOff_inb (s : Fin 6) : ∀ a, rOff s a + S1x5000x128.size a ≤ S6x5000x128.size a := by
  have := s.isLt; intro a; fin_cases a
  · show s.val + 1 ≤ 6; omega
  · show 0 + 5000 ≤ 5000; omega
  · show 0 + 128 ≤ 128; omega
abbrev wOff (s : Fin 4) : Fin 3 → Nat := ![s.val, 0, 0]
theorem wOff_inb (s : Fin 4) : ∀ a, wOff s a + S1x5000x128.size a ≤ S4x5000x128.size a := by
  have := s.isLt; intro a; fin_cases a
  · show s.val + 1 ≤ 4; omega
  · show 0 + 5000 ≤ 5000; omega
  · show 0 + 128 ≤ 128; omega
abbrev rsOff (s : Fin 6) : Fin 1 → Nat := ![s.val]
theorem rsOff_inb (s : Fin 6) : ∀ a, rsOff s a + S1.size a ≤ S6.size a := by
  have := s.isLt; intro a; fin_cases a; show s.val + 1 ≤ 6; omega
abbrev wsOff (t : Fin 2) (s : Fin 4) : Fin 2 → Nat := ![t.val, s.val]
theorem wsOff_inb (t : Fin 2) (s : Fin 4) : ∀ a, wsOff t s a + S1x1.size a ≤ S2x4.size a := by
  have := s.isLt; have := t.isLt; intro a; fin_cases a
  · show t.val + 1 ≤ 2; omega
  · show s.val + 1 ≤ 4; omega

/-! ## The pieces -/

/-- Rows `5000 b … 5000 b + 4999` of the operand. -/
def xblk (b : Fin 20) : Memref sig .tc .hbm S5000x128 .f32 :=
  xM.slice (Rect.unit (s := S100000x128) (blkOff b) S5000x128.size (blkOff_inb b)) (fun _ => rfl)
/-- Rows `5000 b … 5000 b + 4999` of the result. -/
def oblk (b : Fin 20) : Memref sig .tc .hbm S5000x128 .f32 :=
  oM.slice (Rect.unit (s := S100000x128) (blkOff b) S5000x128.size (blkOff_inb b)) (fun _ => rfl)
/-- Input slot `s` of the first stream. -/
def rsA (s : Fin 6) : Memref sig .tc .vmem S5000x128 .f32 :=
  (rbufA.slice (Rect.unit (s := S6x5000x128) (rOff s) S1x5000x128.size (rOff_inb s)) (fun _ => rfl)).squeeze S5000x128 squeezes_S1x5000x128_S5000x128
/-- Input slot `s` of the second stream. -/
def rsB (s : Fin 6) : Memref sig .tc .vmem S5000x128 .f32 :=
  (rbufB.slice (Rect.unit (s := S6x5000x128) (rOff s) S1x5000x128.size (rOff_inb s)) (fun _ => rfl)).squeeze S5000x128 squeezes_S1x5000x128_S5000x128
/-- Output slot `s` of the first stream. -/
def wsA (s : Fin 4) : Memref sig .tc .vmem S5000x128 .f32 :=
  (wbufA.slice (Rect.unit (s := S4x5000x128) (wOff s) S1x5000x128.size (wOff_inb s)) (fun _ => rfl)).squeeze S5000x128 squeezes_S1x5000x128_S5000x128
/-- Output slot `s` of the second stream. -/
def wsB (s : Fin 4) : Memref sig .tc .vmem S5000x128 .f32 :=
  (wbufB.slice (Rect.unit (s := S4x5000x128) (wOff s) S1x5000x128.size (wOff_inb s)) (fun _ => rfl)).squeeze S5000x128 squeezes_S1x5000x128_S5000x128
/-- The semaphore of input slot `s`, first stream. -/
def rcA (s : Fin 6) : DmaSems sig S_ := (cc0_scoped1.slice (Rect.unit (s := S6) (rsOff s) S1.size (rsOff_inb s))).squeeze S_ squeezes_S1_S_
/-- The semaphore of input slot `s`, second stream. -/
def rcB (s : Fin 6) : DmaSems sig S_ := (cc0_scoped3.slice (Rect.unit (s := S6) (rsOff s) S1.size (rsOff_inb s))).squeeze S_ squeezes_S1_S_
/-- The semaphore of output slot `s` of stream `t`. -/
def wc (t : Fin 2) (s : Fin 4) : DmaSems sig S_ := (cc0_scratch2.slice (Rect.unit (s := S2x4) (wsOff t s) S1x1.size (wsOff_inb t s))).squeeze S_ squeezes_S1x1_S_

instance (s : Fin 6) : ClosedOff (rOff s) := ⟨rOff s, rfl⟩
instance (s : Fin 4) : ClosedOff (wOff s) := ⟨wOff s, rfl⟩
instance (b : Fin 20) : ClosedOff (blkOff b) := ⟨blkOff b, rfl⟩

/-! ## The words a trip carries: how far the copies in have been started, how far taken, and the step -/

def wP (k : ℕ) : BitVec 32 := BitVec.ofNat 32 (min (k + 5) 10)
def wC (k : ℕ) : BitVec 32 := BitVec.ofNat 32 k
def wI (k : ℕ) : BitVec 32 := BitVec.ofNat 32 (k % 10)

theorem trips_eq : k0_t1_loop.trips = 10 := by decide

theorem off27_eq : ∀ k : Fin k0_t1_loop.trips, k.val + 5 < 10 → k0_off27 (wP k.val) = rsOff (Ring.sl 6 (k.val + 5)) := by decide
theorem off28_eq : ∀ k : Fin k0_t1_loop.trips, k.val + 5 < 10 → k0_off28 (wP k.val) = rOff (Ring.sl 6 (k.val + 5)) := by decide
theorem off29_eq : ∀ k : Fin k0_t1_loop.trips, k.val + 5 < 10 → k0_off29 (wI k.val) = blkOff (Ring.bk 20 (k.val + 5)) := by decide
theorem off30_eq : ∀ k : Fin k0_t1_loop.trips, k.val + 5 < 10 → k0_off30 (wP k.val) = rsOff (Ring.sl 6 (k.val + 5)) := by decide
theorem off31_eq : ∀ k : Fin k0_t1_loop.trips, k.val + 5 < 10 → k0_off31 (wP k.val) = rOff (Ring.sl 6 (k.val + 5)) := by decide
theorem off32_eq : ∀ k : Fin k0_t1_loop.trips, k.val + 5 < 10 → k0_off32 (wI k.val) = blkOff (Ring.bk 20 (k.val + 5 + 10)) := by decide
theorem off33_eq : ∀ k : Fin k0_t1_loop.trips, k0_off33 (wC k.val) = rsOff (Ring.sl 6 k.val) := by decide
theorem off34_eq : ∀ k : Fin k0_t1_loop.trips, k0_off34 (wC k.val) = rOff (Ring.sl 6 k.val) := by decide
theorem off35_eq : ∀ k : Fin k0_t1_loop.trips, k0_off35 (wI k.val) = blkOff (Ring.bk 20 k.val) := by decide
theorem off36_eq : ∀ k : Fin k0_t1_loop.trips, k0_off36 (wC k.val) = rsOff (Ring.sl 6 k.val) := by decide
theorem off37_eq : ∀ k : Fin k0_t1_loop.trips, k0_off37 (wC k.val) = rOff (Ring.sl 6 k.val) := by decide
theorem off38_eq : ∀ k : Fin k0_t1_loop.trips, k0_off38 (wI k.val) = blkOff (Ring.bk 20 (k.val + 10)) := by decide
theorem off39_eq : ∀ k : Fin k0_t1_loop.trips, k0_off39 (wI k.val) = wsOff 0 (Ring.sl 4 k.val) := by decide
theorem off40_eq : ∀ k : Fin k0_t1_loop.trips, 4 ≤ k.val → k0_off40 (wI k.val) = blkOff (Ring.bk 20 (k.val - 4)) := by decide
theorem off41_eq : ∀ k : Fin k0_t1_loop.trips, k0_off41 (wI k.val) = wOff (Ring.sl 4 k.val) := by decide
theorem off42_eq : ∀ k : Fin k0_t1_loop.trips, k0_off42 (wI k.val) = wsOff 1 (Ring.sl 4 k.val) := by decide
theorem off43_eq : ∀ k : Fin k0_t1_loop.trips, 4 ≤ k.val → k0_off43 (wI k.val) = blkOff (Ring.bk 20 (k.val - 4 + 10)) := by decide
theorem off44_eq : ∀ k : Fin k0_t1_loop.trips, k0_off44 (wC k.val) = rOff (Ring.sl 6 k.val) := by decide
theorem off45_eq : ∀ k : Fin k0_t1_loop.trips, k0_off45 (wI k.val) = wOff (Ring.sl 4 k.val) := by decide
theorem off46_eq : ∀ k : Fin k0_t1_loop.trips, k0_off46 (wI k.val) = wsOff 0 (Ring.sl 4 k.val) := by decide
theorem off47_eq : ∀ k : Fin k0_t1_loop.trips, k0_off47 (wI k.val) = blkOff (Ring.bk 20 k.val) := by decide
theorem off48_eq : ∀ k : Fin k0_t1_loop.trips, k0_off48 (wI k.val) = wOff (Ring.sl 4 k.val) := by decide
theorem off49_eq : ∀ k : Fin k0_t1_loop.trips, k0_off49 (wC k.val) = rOff (Ring.sl 6 k.val) := by decide
theorem off50_eq : ∀ k : Fin k0_t1_loop.trips, k0_off50 (wI k.val) = wsOff 1 (Ring.sl 4 k.val) := by decide
theorem off51_eq : ∀ k : Fin k0_t1_loop.trips, k0_off51 (wI k.val) = blkOff (Ring.bk 20 (k.val + 10)) := by decide

theorem chk1_ok : ∀ k : Fin k0_t1_loop.trips, k0_chk1 k (wP k.val) (wC k.val) (wP k.val) (wC k.val) (wI k.val) := by decide +kernel
theorem chk2_ok : ∀ k : Fin k0_t1_loop.trips, k0_chk2 (wC k.val) := by decide +kernel
theorem chk3_ok : ∀ k : Fin k0_t1_loop.trips, k0_chk3 (wC k.val) := by decide +kernel

theorem cond9_yes : ∀ k : Fin k0_t1_loop.trips, k.val + 5 < 10 → k0_cond9 k (wI k.val) = 1#1 := by decide +kernel
theorem cond9_no : ∀ k : Fin k0_t1_loop.trips, ¬ k.val + 5 < 10 → ¬ k0_cond9 k (wI k.val) = 1#1 := by decide +kernel
theorem cond10_yes : ∀ k : Fin k0_t1_loop.trips, k.val + 5 < 10 → k0_cond10 k (wI k.val) = 1#1 := by decide +kernel
theorem cond10_no : ∀ k : Fin k0_t1_loop.trips, ¬ k.val + 5 < 10 → ¬ k0_cond10 k (wI k.val) = 1#1 := by decide +kernel
theorem cond11_yes : ∀ k : Fin k0_t1_loop.trips, k0_cond11 k (wI k.val) = 1#1 := by decide +kernel
theorem cond12_yes : ∀ k : Fin k0_t1_loop.trips, k0_cond12 k (wI k.val) = 1#1 := by decide +kernel
theorem cond13_yes : ∀ k : Fin k0_t1_loop.trips, 4 ≤ k.val → k0_cond13 (wI k.val) = 1#1 := by decide +kernel
theorem cond13_no : ∀ k : Fin k0_t1_loop.trips, ¬ 4 ≤ k.val → ¬ k0_cond13 (wI k.val) = 1#1 := by decide +kernel

instance (k : Fin k0_t1_loop.trips) : ClosedOff (k0_off44 (wC k.val)) := ⟨rOff (Ring.sl 6 k.val), off44_eq k⟩
instance (k : Fin k0_t1_loop.trips) : ClosedOff (k0_off49 (wC k.val)) := ⟨rOff (Ring.sl 6 k.val), off49_eq k⟩
instance (k : Fin k0_t1_loop.trips) : ClosedOff (k0_off45 (wI k.val)) := ⟨wOff (Ring.sl 4 k.val), off45_eq k⟩

/-! ## The equations -/

theorem xblk_congr {off : Fin 2 → Nat} {b : Fin 20} (e : off = blkOff b) (hh hs) :
    xM.slice (Rect.unit (s := S100000x128) off S5000x128.size hh) hs = xblk b := Memref.slice_unit_congr _ e _ _ _ (fun _ => rfl)
theorem oblk_congr {off : Fin 2 → Nat} {b : Fin 20} (e : off = blkOff b) (hh hs) :
    oM.slice (Rect.unit (s := S100000x128) off S5000x128.size hh) hs = oblk b := Memref.slice_unit_congr _ e _ _ _ (fun _ => rfl)
theorem rsA_congr {off : Fin 3 → Nat} {s : Fin 6} (e : off = rOff s) (hh hs) :
    (rbufA.slice (Rect.unit (s := S6x5000x128) off S1x5000x128.size hh) hs).squeeze S5000x128 squeezes_S1x5000x128_S5000x128 = rsA s :=
  congrArg (fun M : Memref sig .tc .vmem S1x5000x128 .f32 => M.squeeze S5000x128 squeezes_S1x5000x128_S5000x128) (Memref.slice_unit_congr _ e _ _ _ _)
theorem rsB_congr {off : Fin 3 → Nat} {s : Fin 6} (e : off = rOff s) (hh hs) :
    (rbufB.slice (Rect.unit (s := S6x5000x128) off S1x5000x128.size hh) hs).squeeze S5000x128 squeezes_S1x5000x128_S5000x128 = rsB s :=
  congrArg (fun M : Memref sig .tc .vmem S1x5000x128 .f32 => M.squeeze S5000x128 squeezes_S1x5000x128_S5000x128) (Memref.slice_unit_congr _ e _ _ _ _)
theorem wsA_congr {off : Fin 3 → Nat} {s : Fin 4} (e : off = wOff s) (hh hs) :
    (wbufA.slice (Rect.unit (s := S4x5000x128) off S1x5000x128.size hh) hs).squeeze S5000x128 squeezes_S1x5000x128_S5000x128 = wsA s :=
  congrArg (fun M : Memref sig .tc .vmem S1x5000x128 .f32 => M.squeeze S5000x128 squeezes_S1x5000x128_S5000x128) (Memref.slice_unit_congr _ e _ _ _ _)
theorem wsB_congr {off : Fin 3 → Nat} {s : Fin 4} (e : off = wOff s) (hh hs) :
    (wbufB.slice (Rect.unit (s := S4x5000x128) off S1x5000x128.size hh) hs).squeeze S5000x128 squeezes_S1x5000x128_S5000x128 = wsB s :=
  congrArg (fun M : Memref sig .tc .vmem S1x5000x128 .f32 => M.squeeze S5000x128 squeezes_S1x5000x128_S5000x128) (Memref.slice_unit_congr _ e _ _ _ _)
theorem rcA_congr {off : Fin 1 → Nat} {s : Fin 6} (e : off = rsOff s) (hh) :
    (cc0_scoped1.slice (Rect.unit (s := S6) off S1.size hh)).squeeze S_ squeezes_S1_S_ = rcA s :=
  congrArg (fun A : DmaSems sig S1 => A.squeeze S_ squeezes_S1_S_) (SemArray.slice_unit_congr _ e _ _)
theorem rcB_congr {off : Fin 1 → Nat} {s : Fin 6} (e : off = rsOff s) (hh) :
    (cc0_scoped3.slice (Rect.unit (s := S6) off S1.size hh)).squeeze S_ squeezes_S1_S_ = rcB s :=
  congrArg (fun A : DmaSems sig S1 => A.squeeze S_ squeezes_S1_S_) (SemArray.slice_unit_congr _ e _ _)
theorem wc_congr {off : Fin 2 → Nat} {t : Fin 2} {s : Fin 4} (e : off = wsOff t s) (hh) :
    (cc0_scratch2.slice (Rect.unit (s := S2x4) off S1x1.size hh)).squeeze S_ squeezes_S1x1_S_ = wc t s :=
  congrArg (fun A : DmaSems sig S1x1 => A.squeeze S_ squeezes_S1x1_S_) (SemArray.slice_unit_congr _ e _ _)

section Trip
variable (k : Fin k0_t1_loop.trips)

@[sl_canon] theorem c27 (h : k.val + 5 < 10) (hh) : (cc0_scoped1.slice (Rect.unit (s := S6) (k0_off27 (wP k.val)) S1.size hh)).squeeze S_ squeezes_S1_S_ = rcA (Ring.sl 6 (k.val + 5)) := rcA_congr (off27_eq k h) _
@[sl_canon] theorem c28 (h : k.val + 5 < 10) (hh hs) : (rbufA.slice (Rect.unit (s := S6x5000x128) (k0_off28 (wP k.val)) S1x5000x128.size hh) hs).squeeze S5000x128 squeezes_S1x5000x128_S5000x128 = rsA (Ring.sl 6 (k.val + 5)) := rsA_congr (off28_eq k h) _ _
@[sl_canon] theorem c29 (h : k.val + 5 < 10) (hh hs) : xM.slice (Rect.unit (s := S100000x128) (k0_off29 (wI k.val)) S5000x128.size hh) hs = xblk (Ring.bk 20 (k.val + 5)) := xblk_congr (off29_eq k h) _ _
@[sl_canon] theorem c30 (h : k.val + 5 < 10) (hh) : (cc0_scoped3.slice (Rect.unit (s := S6) (k0_off30 (wP k.val)) S1.size hh)).squeeze S_ squeezes_S1_S_ = rcB (Ring.sl 6 (k.val + 5)) := rcB_congr (off30_eq k h) _
@[sl_canon] theorem c31 (h : k.val + 5 < 10) (hh hs) : (rbufB.slice (Rect.unit (s := S6x5000x128) (k0_off31 (wP k.val)) S1x5000x128.size hh) hs).squeeze S5000x128 squeezes_S1x5000x128_S5000x128 = rsB (Ring.sl 6 (k.val + 5)) := rsB_congr (off31_eq k h) _ _
@[sl_canon] theorem c32 (h : k.val + 5 < 10) (hh hs) : xM.slice (Rect.unit (s := S100000x128) (k0_off32 (wI k.val)) S5000x128.size hh) hs = xblk (Ring.bk 20 (k.val + 5 + 10)) := xblk_congr (off32_eq k h) _ _
@[sl_canon] theorem c33 (hh) : (cc0_scoped1.slice (Rect.unit (s := S6) (k0_off33 (wC k.val)) S1.size hh)).squeeze S_ squeezes_S1_S_ = rcA (Ring.sl 6 k.val) := rcA_congr (off33_eq k) _
@[sl_canon] theorem c34 (hh hs) : (rbufA.slice (Rect.unit (s := S6x5000x128) (k0_off34 (wC k.val)) S1x5000x128.size hh) hs).squeeze S5000x128 squeezes_S1x5000x128_S5000x128 = rsA (Ring.sl 6 k.val) := rsA_congr (off34_eq k) _ _
@[sl_canon] theorem c35 (hh hs) : xM.slice (Rect.unit (s := S100000x128) (k0_off35 (wI k.val)) S5000x128.size hh) hs = xblk (Ring.bk 20 k.val) := xblk_congr (off35_eq k) _ _
@[sl_canon] theorem c36 (hh) : (cc0_scoped3.slice (Rect.unit (s := S6) (k0_off36 (wC k.val)) S1.size hh)).squeeze S_ squeezes_S1_S_ = rcB (Ring.sl 6 k.val) := rcB_congr (off36_eq k) _
@[sl_canon] theorem c37 (hh hs) : (rbufB.slice (Rect.unit (s := S6x5000x128) (k0_off37 (wC k.val)) S1x5000x128.size hh) hs).squeeze S5000x128 squeezes_S1x5000x128_S5000x128 = rsB (Ring.sl 6 k.val) := rsB_congr (off37_eq k) _ _
@[sl_canon] theorem c38 (hh hs) : xM.slice (Rect.unit (s := S100000x128) (k0_off38 (wI k.val)) S5000x128.size hh) hs = xblk (Ring.bk 20 (k.val + 10)) := xblk_congr (off38_eq k) _ _
@[sl_canon] theorem c39 (hh) : (cc0_scratch2.slice (Rect.unit (s := S2x4) (k0_off39 (wI k.val)) S1x1.size hh)).squeeze S_ squeezes_S1x1_S_ = wc 0 (Ring.sl 4 k.val) := wc_congr (off39_eq k) _
@[sl_canon] theorem c40 (h : 4 ≤ k.val) (hh hs) : oM.slice (Rect.unit (s := S100000x128) (k0_off40 (wI k.val)) S5000x128.size hh) hs = oblk (Ring.bk 20 (k.val - 4)) := oblk_congr (off40_eq k h) _ _
@[sl_canon] theorem c41A (hh hs) : (wbufA.slice (Rect.unit (s := S4x5000x128) (k0_off41 (wI k.val)) S1x5000x128.size hh) hs).squeeze S5000x128 squeezes_S1x5000x128_S5000x128 = wsA (Ring.sl 4 k.val) := wsA_congr (off41_eq k) _ _
@[sl_canon] theorem c41B (hh hs) : (wbufB.slice (Rect.unit (s := S4x5000x128) (k0_off41 (wI k.val)) S1x5000x128.size hh) hs).squeeze S5000x128 squeezes_S1x5000x128_S5000x128 = wsB (Ring.sl 4 k.val) := wsB_congr (off41_eq k) _ _
@[sl_canon] theorem c42 (hh) : (cc0_scratch2.slice (Rect.unit (s := S2x4) (k0_off42 (wI k.val)) S1x1.size hh)).squeeze S_ squeezes_S1x1_S_ = wc 1 (Ring.sl 4 k.val) := wc_congr (off42_eq k) _
@[sl_canon] theorem c43 (h : 4 ≤ k.val) (hh hs) : oM.slice (Rect.unit (s := S100000x128) (k0_off43 (wI k.val)) S5000x128.size hh) hs = oblk (Ring.bk 20 (k.val - 4 + 10)) := oblk_congr (off43_eq k h) _ _
@[sl_canon] theorem c46 (hh) : (cc0_scratch2.slice (Rect.unit (s := S2x4) (k0_off46 (wI k.val)) S1x1.size hh)).squeeze S_ squeezes_S1x1_S_ = wc 0 (Ring.sl 4 k.val) := wc_congr (off46_eq k) _
@[sl_canon] theorem c47 (hh hs) : oM.slice (Rect.unit (s := S100000x128) (k0_off47 (wI k.val)) S5000x128.size hh) hs = oblk (Ring.bk 20 k.val) := oblk_congr (off47_eq k) _ _
@[sl_canon] theorem c48A (hh hs) : (wbufA.slice (Rect.unit (s := S4x5000x128) (k0_off48 (wI k.val)) S1x5000x128.size hh) hs).squeeze S5000x128 squeezes_S1x5000x128_S5000x128 = wsA (Ring.sl 4 k.val) := wsA_congr (off48_eq k) _ _
@[sl_canon] theorem c48B (hh hs) : (wbufB.slice (Rect.unit (s := S4x5000x128) (k0_off48 (wI k.val)) S1x5000x128.size hh) hs).squeeze S5000x128 squeezes_S1x5000x128_S5000x128 = wsB (Ring.sl 4 k.val) := wsB_congr (off48_eq k) _ _
@[sl_canon] theorem c50 (hh) : (cc0_scratch2.slice (Rect.unit (s := S2x4) (k0_off50 (wI k.val)) S1x1.size hh)).squeeze S_ squeezes_S1x1_S_ = wc 1 (Ring.sl 4 k.val) := wc_congr (off50_eq k) _
@[sl_canon] theorem c51 (hh hs) : oM.slice (Rect.unit (s := S100000x128) (k0_off51 (wI k.val)) S5000x128.size hh) hs = oblk (Ring.bk 20 (k.val + 10)) := oblk_congr (off51_eq k) _ _

end Trip

end Cert.Proof.Mlp

end
-- ==== Proof.Pieces.lean ====
/-
  What the copies hold: a block of the operand on its way into a slot, a slot on its way out to a block of the
  result; and the contents the result's blocks receive.
-/
module

public import proofs.«01_k».proof.Proof.Names
public import Idealize.ShloMosaic.Lib.VecWindow
public import Idealize.ShloMosaic.Lib.ValueIdx

@[expose] public section

noncomputable section

namespace Cert.Proof.Mlp

open Cert.KernelIdeal Cert.KernelIdeal.Gen
open Idealize.ShloMosaic
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ × Counters
local notation "𝕄" => MT nD τ sig Unit (Elt F) ℕ (UU nD τ) ℕ
abbrev 𝒱₀ : Variants := Variants.none

section Pieces
variable (c : Dev nD) (X : Buf (Elt F) (xM.view.loc (c : Thread nD τ)))

/-- A semaphore at zero. -/
abbrev cellP (s : DmaSems sig S_) : sProp 𝕄 := semVal ((c : Thread nD τ), SemLoc.dma s.sem) 0
/-- Input slot `s` of the first stream at contents `f`. -/
abbrev rslA (s : Fin 6) (f : Buf (Elt F) (rbufA.view.loc (c : Thread nD τ))) : sProp 𝕄 := (rsA s).view.loc (c : Thread nD τ) ↦[(rsA s).view.set]{fullShare} f
/-- Input slot `s` of the second stream at contents `f`. -/
abbrev rslB (s : Fin 6) (f : Buf (Elt F) (rbufB.view.loc (c : Thread nD τ))) : sProp 𝕄 := (rsB s).view.loc (c : Thread nD τ) ↦[(rsB s).view.set]{fullShare} f
/-- Output slot `s` of the first stream at contents `f`. -/
abbrev wslA (s : Fin 4) (f : Buf (Elt F) (wbufA.view.loc (c : Thread nD τ))) : sProp 𝕄 := (wsA s).view.loc (c : Thread nD τ) ↦[(wsA s).view.set]{fullShare} f
/-- Output slot `s` of the second stream at contents `f`. -/
abbrev wslB (s : Fin 4) (f : Buf (Elt F) (wbufB.view.loc (c : Thread nD τ))) : sProp 𝕄 := (wsB s).view.loc (c : Thread nD τ) ↦[(wsB s).view.set]{fullShare} f
/-- Block `b` of the result at contents `f`. -/
abbrev resP (b : Fin 20) (f : Buf (Elt F) (oM.view.loc (c : Thread nD τ))) : sProp 𝕄 := (oblk b).view.loc (c : Thread nD τ) ↦[(oblk b).view.set]{fullShare} f
/-- Block `b` of the operand. -/
abbrev homeP (b : Fin 20) : sProp 𝕄 := (xblk b).view.loc (c : Thread nD τ) ↦[(xblk b).view.set]{fullShare} X
/-- Block `b` of the operand, as the copy reads it. -/
abbrev payload (b : Fin 20) : S5000x128.Idx → Elt F .f32 := ReadAs.same.apply ((xblk b).view.read (Elt F) X)
/-- Slot `s` of the first stream after block `b` has been copied into it. -/
abbrev landA (s : Fin 6) (b : Fin 20) (f : Buf (Elt F) (rbufA.view.loc (c : Thread nD τ))) : Buf (Elt F) (rbufA.view.loc (c : Thread nD τ)) :=
  (rsA s).view.writes (Elt F) f [⟨Rect.whole S5000x128, payload c X b⟩]
/-- Slot `s` of the second stream after block `b` has been copied into it. -/
abbrev landB (s : Fin 6) (b : Fin 20) (f : Buf (Elt F) (rbufB.view.loc (c : Thread nD τ))) : Buf (Elt F) (rbufB.view.loc (c : Thread nD τ)) :=
  (rsB s).view.writes (Elt F) f [⟨Rect.whole S5000x128, payload c X b⟩]
/-- Block `b` on its way into slot `s` of the first stream. -/
abbrev inA (s : Fin 6) (b : Fin 20) (f : Buf (Elt F) (rbufA.view.loc (c : Thread nD τ))) : sProp 𝕄 :=
  Transfers.Flight countersEmb (c : Thread nD τ) (SemLoc.dma (rcA s).sem) () 80000 iprop(rslA c s (landA c X s b f) ∗ homeP c X b)
/-- Block `b` on its way into slot `s` of the second stream. -/
abbrev inB (s : Fin 6) (b : Fin 20) (f : Buf (Elt F) (rbufB.view.loc (c : Thread nD τ))) : sProp 𝕄 :=
  Transfers.Flight countersEmb (c : Thread nD τ) (SemLoc.dma (rcB s).sem) () 80000 iprop(rslB c s (landB c X s b f) ∗ homeP c X b)
/-- Output slot `s` of the first stream on its way to block `b` of the result. -/
abbrev outA (s : Fin 4) (b : Fin 20) (f : Buf (Elt F) (oM.view.loc (c : Thread nD τ))) (g : Buf (Elt F) (wbufA.view.loc (c : Thread nD τ))) : sProp 𝕄 :=
  Transfers.Flight countersEmb (c : Thread nD τ) (SemLoc.dma (wc 0 s).sem) () 80000 iprop(resP c b f ∗ wslA c s g)
/-- Output slot `s` of the second stream on its way to block `b` of the result. -/
abbrev outB (s : Fin 4) (b : Fin 20) (f : Buf (Elt F) (oM.view.loc (c : Thread nD τ))) (g : Buf (Elt F) (wbufB.view.loc (c : Thread nD τ))) : sProp 𝕄 :=
  Transfers.Flight countersEmb (c : Thread nD τ) (SemLoc.dma (wc 1 s).sem) () 80000 iprop(resP c b f ∗ wslB c s g)

end Pieces

section Values
variable (c : Dev nD) (X : Buf (Elt F) (xM.view.loc (c : Thread nD τ)))
  (v1 : FVec F S256x128 .bf16) (v3 : FVec F S1x256 .f32) (v5 : FVec F S1x128 .f32) (w1 : Vec F S128x256 .f32)

theorem numel_slot : S5000x128.numel = S1x5000x128.numel := squeezes_S1x5000x128_S5000x128.numel_eq

/-- What a whole write left is what a read finds. -/
theorem read_back {sp : _} (v : View sig .tc sp S5000x128 .f32) (f : v.ty.Contents (Elt F)) (w : S5000x128.Idx → Elt F .f32) :
    v.read (Elt F) (v.writes (Elt F) f [⟨Rect.whole S5000x128, w⟩]) = w := by
  funext y
  have h := View.read_writes_cons_emb (Val := Elt F) v f (Rect.whole S5000x128) w [] y
  rwa [show (Rect.whole S5000x128).emb y = y from by exact Rect.emb_whole_apply S5000x128 y] at h

/-- Block `b` of the operand as a slot shows it, with its leading unit axis. -/
def lifted (b : Fin 20) : Vec F S1x5000x128 .f32 := fun x => payload c X b (Shape.reshapeEquiv numel_slot.symm x)
/-- What the kernel computes for block `b`. -/
def blkVal (b : Fin 20) : S5000x128.Idx → Elt F .f32 := fun y => k0_pay1 v1 v3 v5 (lifted c X b) w1 (Shape.reshapeEquiv numel_slot y)
/-- What the kernel computes for the whole result: row `5000 b + r` from block `b`'s row `r`. -/
def outAt (i : S100000x128.Idx) : Elt F .f32 :=
  blkVal c X v1 v3 v5 w1 ⟨(i 0).val / 5000, by have : (i 0).val < 100000 := (i 0).isLt; omega⟩ (ix2 (⟨(i 0).val % 5000, by omega⟩ : Fin 5000) (i 1))
/-- The same as contents of the result. -/
def outVal : Buf (Elt F) (oM.view.loc (c : Thread nD τ)) := outAt c X v1 v3 v5 w1

/-- Row `r` of block `b` among all rows. -/
def rowAt (b : Fin 20) (y : S5000x128.Idx) : S100000x128.Idx :=
  ix2 (⟨5000 * b.val + (y 0).val, by have : (y 0).val < 5000 := (y 0).isLt; have := b.isLt; omega⟩ : Fin 100000) (y 1)
theorem emb_oblk (b : Fin 20) (y : S5000x128.Idx) : (oblk b).view.emb y = rowAt b y := by
  refine funext fun a : Fin 2 => Fin.ext ?_
  fin_cases a
  · show 5000 * b.val + 1 * (y 0).val = 5000 * b.val + (y 0).val; omega
  · show 0 + 1 * (y 1).val = (y 1).val; omega
theorem outAt_row (b : Fin 20) (y : S5000x128.Idx) : outAt c X v1 v3 v5 w1 (rowAt b y) = blkVal c X v1 v3 v5 w1 b y := by
  have hy : (y 0).val < 5000 := (y 0).isLt
  have eb : ∀ h, (⟨(rowAt b y 0).val / 5000, h⟩ : Fin 20) = b := fun h => Fin.ext (by show (5000 * b.val + (y 0).val) / 5000 = b.val; omega)
  have er : ∀ h, (⟨(rowAt b y 0).val % 5000, h⟩ : Fin 5000) = y 0 := fun h => Fin.ext (by show (5000 * b.val + (y 0).val) % 5000 = (y 0).val; omega)
  rw [outAt, eb, er]
  exact congrArg _ (eq_ix2 y).symm

/-- A load of slot `s` after block `b` landed in it shows block `b`. -/
theorem loadA {off : Fin 3 → Nat} {s : Fin 6} (e : off = rOff s) (inb : ∀ a, off a + S1x5000x128.size a ≤ S6x5000x128.size a) (b : Fin 20) (f : Buf (Elt F) (rbufA.view.loc (c : Thread nD τ))) :
    rbufA.view.readAt (Elt F) (Rect.unit (s := S6x5000x128) off S1x5000x128.size inb).toLoadRect (landA c X s b f) = lifted c X b := by
  subst e
  funext x
  have hx : x = Shape.reshapeEquiv numel_slot (Shape.reshapeEquiv numel_slot.symm x) := by
    rw [Shape.reshapeEquiv_reshapeEquiv, Shape.reshapeEquiv_self]
  rw [lifted]
  generalize Shape.reshapeEquiv numel_slot.symm x = y at hx
  subst hx
  exact congrFun (read_back (rsA s).view f (payload c X b)) y
/-- The same for the second stream. -/
theorem loadB {off : Fin 3 → Nat} {s : Fin 6} (e : off = rOff s) (inb : ∀ a, off a + S1x5000x128.size a ≤ S6x5000x128.size a) (b : Fin 20) (f : Buf (Elt F) (rbufB.view.loc (c : Thread nD τ))) :
    rbufB.view.readAt (Elt F) (Rect.unit (s := S6x5000x128) off S1x5000x128.size inb).toLoadRect (landB c X s b f) = lifted c X b := by
  subst e
  funext x
  have hx : x = Shape.reshapeEquiv numel_slot (Shape.reshapeEquiv numel_slot.symm x) := by
    rw [Shape.reshapeEquiv_reshapeEquiv, Shape.reshapeEquiv_self]
  rw [lifted]
  generalize Shape.reshapeEquiv numel_slot.symm x = y at hx
  subst hx
  exact congrFun (read_back (rsB s).view f (payload c X b)) y

/-- Slot `s` read after a store of the whole slot shows what was stored. -/
theorem storeA {off : Fin 3 → Nat} {s : Fin 4} (e : off = wOff s) (inb : ∀ a, off a + S1x5000x128.size a ≤ S4x5000x128.size a)
    (g : Buf (Elt F) (wbufA.view.loc (c : Thread nD τ))) (w : Vec F S1x5000x128 .f32) :
    ReadAs.same.apply ((wsA s).view.read (Elt F) ((wbufA.access (Rect.unit (s := S4x5000x128) off S1x5000x128.size inb)).write (Elt F) g w Finset.univ))
      = fun y => w (Shape.reshapeEquiv numel_slot y) := by
  subst e
  funext y
  exact congrFun (Memref.read_slice_write wbufA inb rfl inb g w) (Shape.reshapeEquiv numel_slot y)
/-- The same for the second stream. -/
theorem storeB {off : Fin 3 → Nat} {s : Fin 4} (e : off = wOff s) (inb : ∀ a, off a + S1x5000x128.size a ≤ S4x5000x128.size a)
    (g : Buf (Elt F) (wbufB.view.loc (c : Thread nD τ))) (w : Vec F S1x5000x128 .f32) :
    ReadAs.same.apply ((wsB s).view.read (Elt F) ((wbufB.access (Rect.unit (s := S4x5000x128) off S1x5000x128.size inb)).write (Elt F) g w Finset.univ))
      = fun y => w (Shape.reshapeEquiv numel_slot y) := by
  subst e
  funext y
  exact congrFun (Memref.read_slice_write wbufB inb rfl inb g w) (Shape.reshapeEquiv numel_slot y)

/-- Contents whose block `b` reads `blkVal` are the result's contents there. -/
theorem out_at (b : Fin 20) (W : Buf (Elt F) (oM.view.loc (c : Thread nD τ)))
    (h : ∀ y, (oblk b).view.read (Elt F) W y = blkVal c X v1 v3 v5 w1 b y) (y : S5000x128.Idx) :
    W ((oblk b).view.emb y) = outVal c X v1 v3 v5 w1 ((oblk b).view.emb y) := by
  refine Eq.trans (h y) ?_
  rw [emb_oblk]
  exact (outAt_row c X v1 v3 v5 w1 b y).symm
/-- Block `b` of the result, once written with `blkVal`, holds the result's contents there. -/
theorem resP_out (b : Fin 20) (f : Buf (Elt F) (oM.view.loc (c : Thread nD τ))) :
    resP c b ((oblk b).view.writes (Elt F) f [⟨Rect.whole S5000x128, blkVal c X v1 v3 v5 w1 b⟩]) = resP (F := F) c b (outVal c X v1 v3 v5 w1) := by
  have h := out_at c X v1 v3 v5 w1 b _ (congrFun (read_back (oblk b).view f (blkVal c X v1 v3 v5 w1 b)))
  refine pointsTo_congr fun i hi => ?_
  obtain ⟨y, -, rfl⟩ := Finset.mem_map.mp hi
  exact h y

end Values

end Cert.Proof.Mlp

end
-- ==== Proof.Trip.lean ====
/-
  One trip of the kernel's loop: it starts the copies in of blocks `k + 5` of either stream, awaits those of blocks
  `k`, awaits the copies out of blocks `k - 4`, computes blocks `k` and starts their copies out.
-/
module

public import proofs.«01_k».proof.Proof.Pieces

@[expose] public section

noncomputable section

namespace Cert.Proof.Mlp

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

theorem entails_of_eq {P Q : sProp 𝕄} (e : P = Q) : P ⊢ Q := e ▸ .rfl

/-- All of the first operand's weights, as the kernel loads them. -/
abbrev loadW {c : Dev nD} (arg1 : Memref sig .tc .vmem S128x256 .f32) (fw : Buf (Elt F) (arg1.view.loc (c : Thread nD τ))) : Vec F S128x256 .f32 :=
  arg1.view.readAt (Elt F) (Rect.unit (s := S128x256) ![0, 0] S128x256.size inb_S128x256_S128x256_0_0).toLoadRect fw

section Bundles
variable (c : Dev nD) (X : Buf (Elt F) (xM.view.loc (c : Thread nD τ))) (OUT : Buf (Elt F) (oM.view.loc (c : Thread nD τ)))

/-- Blocks `p` of either stream on their way in. -/
def inPair (p : ℕ) : sProp 𝕄 := iprop((∃ f, inA c X (Ring.sl 6 p) (Ring.bk 20 p) f) ∗ (∃ f, inB c X (Ring.sl 6 p) (Ring.bk 20 (p + 10)) f))
/-- Input slots `p` of either stream free. -/
def freePair (p : ℕ) : sProp 𝕄 :=
  iprop((cellP c (rcA (Ring.sl 6 p)) ∗ (∃ f, rslA c (Ring.sl 6 p) f)) ∗ (cellP c (rcB (Ring.sl 6 p)) ∗ (∃ f, rslB c (Ring.sl 6 p) f)))
/-- Blocks `p` of the operand, either stream. -/
def homePair (p : ℕ) : sProp 𝕄 := iprop(homeP c X (Ring.bk 20 p) ∗ homeP c X (Ring.bk 20 (p + 10)))
/-- Blocks `p` of the result on their way out, either stream. -/
def outPair (p : ℕ) : sProp 𝕄 := iprop((∃ g, outA c (Ring.sl 4 p) (Ring.bk 20 p) OUT g) ∗ (∃ g, outB c (Ring.sl 4 p) (Ring.bk 20 (p + 10)) OUT g))
/-- Output slots `p` of either stream free. -/
def freeOut (p : ℕ) : sProp 𝕄 :=
  iprop((cellP c (wc 0 (Ring.sl 4 p)) ∗ (∃ f, wslA c (Ring.sl 4 p) f)) ∗ (cellP c (wc 1 (Ring.sl 4 p)) ∗ (∃ f, wslB c (Ring.sl 4 p) f)))
/-- Blocks `p` of the result at anything, either stream. -/
def todoPair (p : ℕ) : sProp 𝕄 := iprop((∃ f, resP c (Ring.bk 20 p) f) ∗ (∃ f, resP c (Ring.bk 20 (p + 10)) f))
/-- Blocks `p` of the result done, either stream. -/
def donePair (p : ℕ) : sProp 𝕄 := iprop(resP c (Ring.bk 20 p) OUT ∗ resP c (Ring.bk 20 (p + 10)) OUT)

theorem freePair_six (k : ℕ) : freePair (F := F) c (k + 6) = freePair c k := by
  unfold freePair; rw [Ring.sl_add]
theorem freeOut_four (k : ℕ) (h : 4 ≤ k) : Ring.sl 4 (k - 4) = Ring.sl 4 k := by
  rw [← Ring.sl_add 4 (k - 4), Nat.sub_add_cancel h]

theorem outA_intro (s : Fin 4) (b : Fin 20) {oa : Buf (Elt F) (oM.view.loc (c : Thread nD τ))} {w w' : S5000x128.Idx → Elt F .f32} {g : Buf (Elt F) (wbufA.view.loc (c : Thread nD τ))}
    (hw : w = w') (e : resP c b ((oblk b).view.writes (Elt F) oa [⟨Rect.whole S5000x128, w'⟩]) = resP (F := F) c b OUT) :
    Transfers.Flight countersEmb (c : Thread nD τ) (SemLoc.dma (wc 0 s).sem) () 80000 iprop(resP c b ((oblk b).view.writes (Elt F) oa [⟨Rect.whole S5000x128, w⟩]) ∗ wslA c s g)
      ⊢ (∃ g, outA c s b OUT g : sProp 𝕄) := by
  subst hw
  iintro H
  iexists g
  iapply (entails_of_eq (congrArg (fun P => Transfers.Flight countersEmb (c : Thread nD τ) (SemLoc.dma (wc 0 s).sem) () 80000 iprop(P ∗ wslA c s g)) e))
  iexact H
theorem outB_intro (s : Fin 4) (b : Fin 20) {oa : Buf (Elt F) (oM.view.loc (c : Thread nD τ))} {w w' : S5000x128.Idx → Elt F .f32} {g : Buf (Elt F) (wbufB.view.loc (c : Thread nD τ))}
    (hw : w = w') (e : resP c b ((oblk b).view.writes (Elt F) oa [⟨Rect.whole S5000x128, w'⟩]) = resP (F := F) c b OUT) :
    Transfers.Flight countersEmb (c : Thread nD τ) (SemLoc.dma (wc 1 s).sem) () 80000 iprop(resP c b ((oblk b).view.writes (Elt F) oa [⟨Rect.whole S5000x128, w⟩]) ∗ wslB c s g)
      ⊢ (∃ g, outB c s b OUT g : sProp 𝕄) := by
  subst hw
  iintro H
  iexists g
  iapply (entails_of_eq (congrArg (fun P => Transfers.Flight countersEmb (c : Thread nD τ) (SemLoc.dma (wc 1 s).sem) () 80000 iprop(P ∗ wslB c s g)) e))
  iexact H

end Bundles

section Trip

variable (c : Dev nD) (X : Buf (Elt F) (xM.view.loc (c : Thread nD τ)))
  (arg1 : Memref sig .tc .vmem S128x256 .f32) (harg1 : arg1.IsWhole)
  (arg2 : Memref sig .tc .vmem S1x256 .f32) (harg2 : arg2.IsWhole)
  (arg3 : Memref sig .tc .vmem S256x128 .f32) (harg3 : arg3.IsWhole)
  (arg4 : Memref sig .tc .vmem S1x128 .f32) (harg4 : arg4.IsWhole)
  (fw : Buf (Elt F) (arg1.view.loc (c : Thread nD τ)))
  (v1 : FVec F S256x128 .bf16) (v3 : FVec F S1x256 .f32) (v5 : FVec F S1x128 .f32) (v65 v70 v117 v124 v131 : BitVec 32)

abbrev tripG (k : Fin k0_t1_loop.trips) (a : BitVec 32 × BitVec 32 × BitVec 32 × BitVec 32 × BitVec 32) :=
  k0_t1_body (F := F) xM (Memref.isWhole_whole _) arg1 harg1 arg2 harg2 arg3 harg3 arg4 harg4 oM (Memref.isWhole_whole _)
    wbufA (Memref.isWhole_whole _) wbufB (Memref.isWhole_whole _) cc0_scratch2 rbufA (Memref.isWhole_whole _) cc0_scoped1 rbufB (Memref.isWhole_whole _) cc0_scoped3
    v1 v3 v5 v65 v70 v117 v124 v131 k a

/-- The five words carried into trip `k`. -/
abbrev words (k : ℕ) : BitVec 32 × BitVec 32 × BitVec 32 × BitVec 32 × BitVec 32 := (wP k, wC k, wP k, wC k, wI k)

/-- What every trip keeps: the weights, and the core's waits. -/
abbrev keeps : sProp 𝕄 := iprop((arg1.view.loc (c : Thread nD τ) ↦[arg1.view.set]{fullShare} fw) ∗ (∃ W, owes (c : Thread nD τ) 0 W))

/-- The result's contents. -/
abbrev OUT : Buf (Elt F) (oM.view.loc (c : Thread nD τ)) := outVal c X v1 v3 v5 (loadW arg1 fw)

/-- What trip `k` stores in the first stream's slot is what the kernel computes for block `k`. -/
theorem stored_A {off : Fin 3 → Nat} {off' : Fin 3 → Nat} {s : Fin 4} {s' : Fin 6} (e : off = wOff s) (e' : off' = rOff s')
    (inb : ∀ a, off a + S1x5000x128.size a ≤ S4x5000x128.size a) (inb' : ∀ a, off' a + S1x5000x128.size a ≤ S6x5000x128.size a)
    (b : Fin 20) (f : Buf (Elt F) (rbufA.view.loc (c : Thread nD τ))) (g : Buf (Elt F) (wbufA.view.loc (c : Thread nD τ))) :
    ReadAs.same.apply ((wsA s).view.read (Elt F) ((wbufA.access (Rect.unit (s := S4x5000x128) off S1x5000x128.size inb)).write (Elt F) g
        (k0_pay1 v1 v3 v5 (rbufA.view.readAt (Elt F) (Rect.unit (s := S6x5000x128) off' S1x5000x128.size inb').toLoadRect (landA c X s' b f)) (loadW arg1 fw)) Finset.univ))
      = blkVal c X v1 v3 v5 (loadW arg1 fw) b := by
  rw [loadA c X e' inb' b f]
  exact storeA c e inb g _
/-- The same for the second stream. -/
theorem stored_B {off : Fin 3 → Nat} {off' : Fin 3 → Nat} {s : Fin 4} {s' : Fin 6} (e : off = wOff s) (e' : off' = rOff s')
    (inb : ∀ a, off a + S1x5000x128.size a ≤ S4x5000x128.size a) (inb' : ∀ a, off' a + S1x5000x128.size a ≤ S6x5000x128.size a)
    (b : Fin 20) (f : Buf (Elt F) (rbufB.view.loc (c : Thread nD τ))) (g : Buf (Elt F) (wbufB.view.loc (c : Thread nD τ))) :
    ReadAs.same.apply ((wsB s).view.read (Elt F) ((wbufB.access (Rect.unit (s := S4x5000x128) off S1x5000x128.size inb)).write (Elt F) g
        (k0_pay2 v1 v3 v5 (rbufB.view.readAt (Elt F) (Rect.unit (s := S6x5000x128) off' S1x5000x128.size inb').toLoadRect (landB c X s' b f)) (loadW arg1 fw)) Finset.univ))
      = blkVal c X v1 v3 v5 (loadW arg1 fw) b := by
  rw [loadB c X e' inb' b f]
  exact storeB c e inb g _

set_option backward.proofsInPublic true in
set_option maxHeartbeats 1000000 in
set_option maxRecDepth 20000 in
/-- A trip before the first copies out are awaited. -/
theorem trip1 (k : Fin k0_t1_loop.trips) (h4 : ¬ 4 ≤ k.val) (h5 : k.val + 5 < 10) :
    iprop(keeps c arg1 fw ∗ inPair c X k.val ∗ homePair c X (k.val + 5) ∗ freePair c (k.val + 5) ∗ todoPair c k.val ∗ freeOut c k.val)
    ⊢ wp frame (wpE (defs₀ (F := F)) 𝒱₀ (c : Thread nD τ) none) Set.univ (tripG arg1 harg1 arg2 harg2 arg3 harg3 arg4 harg4 v1 v3 v5 v65 v70 v117 v124 v131 k (words k.val))
        (fun a => iprop(⌜a = words (k.val + 1)⌝ ∗ keeps c arg1 fw ∗ freePair c k.val ∗ homePair c X k.val ∗ inPair c X (k.val + 5)
          ∗ outPair c (OUT c X arg1 fw v1 v3 v5) k.val)) := by
  have d1 := chk1_ok k
  have d2 := chk2_ok k
  have d3 := chk3_ok k
  have e9 := cond9_yes k h5
  have e10 := cond10_yes k h5
  have e11 := cond11_yes k
  have e12 := cond12_yes k
  have e13 := cond13_no k h4
  unfold inPair homePair freePair todoPair freeOut outPair
  iintro ⟨⟨HW1, ⟨%W, HW⟩⟩, ⟨⟨%ra, HA⟩, ⟨%rb, HB⟩⟩, ⟨XA, XB⟩, ⟨⟨CA, ⟨%ra', SA⟩⟩, ⟨CB, ⟨%rb', SB⟩⟩⟩, ⟨⟨%oa, OA⟩, ⟨%ob, OB⟩⟩, ⟨COA, ⟨%wa, WA⟩⟩, ⟨COB, ⟨%wb, WB⟩⟩⟩
  dsimp only [tripG, words]
  sl_unfold [k0_t1_body]
  sl_exec
  sl_step
  isplitr
  · ipureintro; clear * -; revert k; decide +kernel
  isplitl [HW1 HW]
  · isplitl [HW1]; · iexact HW1
    iexists _; iexact HW
  isplitl [HA HA_dst HB HB_dst]
  · isplitl [HA HA_dst]
    · isplitl [HA]; · iexact HA
      iexists _; iexact HA_dst
    · isplitl [HB]; · iexact HB
      iexists _; iexact HB_dst
  isplitl [HA_src HB_src]
  · isplitl [HA_src] <;> iassumption
  isplitl [CA CB]
  · isplitl [CA]
    · iexists ra'; iexact CA
    · iexists rb'; iexact CB
  isplitl [COA]
  · iapply (outA_intro c (OUT c X arg1 fw v1 v3 v5) (Ring.sl 4 k.val) (Ring.bk 20 k.val) (stored_A c X arg1 fw v1 v3 v5 (off45_eq k) (off44_eq k) _ _ _ _ _) (resP_out c X v1 v3 v5 _ _ _))
    iexact COA
  · iapply (outB_intro c (OUT c X arg1 fw v1 v3 v5) (Ring.sl 4 k.val) (Ring.bk 20 (k.val + 10)) (stored_B c X arg1 fw v1 v3 v5 (off45_eq k) (off49_eq k) _ _ _ _ _) (resP_out c X v1 v3 v5 _ _ _))
    iexact COB

set_option backward.proofsInPublic true in
set_option maxHeartbeats 1000000 in
set_option maxRecDepth 20000 in
/-- A trip that starts copies in and awaits copies out. -/
theorem trip2 (k : Fin k0_t1_loop.trips) (h4 : 4 ≤ k.val) (h5 : k.val + 5 < 10) :
    iprop(keeps c arg1 fw ∗ inPair c X k.val ∗ homePair c X (k.val + 5) ∗ freePair c (k.val + 5) ∗ todoPair c k.val ∗ outPair c (OUT c X arg1 fw v1 v3 v5) (k.val - 4))
    ⊢ wp frame (wpE (defs₀ (F := F)) 𝒱₀ (c : Thread nD τ) none) Set.univ (tripG arg1 harg1 arg2 harg2 arg3 harg3 arg4 harg4 v1 v3 v5 v65 v70 v117 v124 v131 k (words k.val))
        (fun a => iprop(⌜a = words (k.val + 1)⌝ ∗ keeps c arg1 fw ∗ freePair c k.val ∗ homePair c X k.val ∗ inPair c X (k.val + 5)
          ∗ outPair c (OUT c X arg1 fw v1 v3 v5) k.val ∗ donePair c (OUT c X arg1 fw v1 v3 v5) (k.val - 4))) := by
  have d1 := chk1_ok k
  have d2 := chk2_ok k
  have d3 := chk3_ok k
  have e9 := cond9_yes k h5
  have e10 := cond10_yes k h5
  have e11 := cond11_yes k
  have e12 := cond12_yes k
  have e13 := cond13_yes k h4
  unfold inPair homePair freePair todoPair donePair outPair
  rw [freeOut_four k.val h4]
  iintro ⟨⟨HW1, ⟨%W, HW⟩⟩, ⟨⟨%ra, HA⟩, ⟨%rb, HB⟩⟩, ⟨XA, XB⟩, ⟨⟨CA, ⟨%ra', SA⟩⟩, ⟨CB, ⟨%rb', SB⟩⟩⟩, ⟨⟨%oa, OA⟩, ⟨%ob, OB⟩⟩, ⟨%wa, COA⟩, ⟨%wb, COB⟩⟩
  dsimp only [tripG, words]
  sl_unfold [k0_t1_body]
  sl_exec
  sl_step
  isplitr
  · ipureintro; clear * -; revert k; decide +kernel
  isplitl [HW1 HW]
  · isplitl [HW1]; · iexact HW1
    iexists _; iexact HW
  isplitl [HA HA_dst HB HB_dst]
  · isplitl [HA HA_dst]
    · isplitl [HA]; · iexact HA
      iexists _; iexact HA_dst
    · isplitl [HB]; · iexact HB
      iexists _; iexact HB_dst
  isplitl [HA_src HB_src]
  · isplitl [HA_src] <;> iassumption
  isplitl [CA CB]
  · isplitl [CA]
    · iexists ra'; iexact CA
    · iexists rb'; iexact CB
  isplitl [COA COB]
  · isplitl [COA]
    · iapply (outA_intro c (OUT c X arg1 fw v1 v3 v5) (Ring.sl 4 k.val) (Ring.bk 20 k.val) (stored_A c X arg1 fw v1 v3 v5 (off45_eq k) (off44_eq k) _ _ _ _ _) (resP_out c X v1 v3 v5 _ _ _))
      iexact COA
    · iapply (outB_intro c (OUT c X arg1 fw v1 v3 v5) (Ring.sl 4 k.val) (Ring.bk 20 (k.val + 10)) (stored_B c X arg1 fw v1 v3 v5 (off45_eq k) (off49_eq k) _ _ _ _ _) (resP_out c X v1 v3 v5 _ _ _))
      iexact COB
  isplitl [COA_dst] <;> iassumption

set_option backward.proofsInPublic true in
set_option maxHeartbeats 1000000 in
set_option maxRecDepth 20000 in
/-- A trip after the last copies in are started. -/
theorem trip3 (k : Fin k0_t1_loop.trips) (h4 : 4 ≤ k.val) (h5 : ¬ k.val + 5 < 10) :
    iprop(keeps c arg1 fw ∗ inPair c X k.val ∗ todoPair c k.val ∗ outPair c (OUT c X arg1 fw v1 v3 v5) (k.val - 4))
    ⊢ wp frame (wpE (defs₀ (F := F)) 𝒱₀ (c : Thread nD τ) none) Set.univ (tripG arg1 harg1 arg2 harg2 arg3 harg3 arg4 harg4 v1 v3 v5 v65 v70 v117 v124 v131 k (words k.val))
        (fun a => iprop(⌜a = words (k.val + 1)⌝ ∗ keeps c arg1 fw ∗ freePair c k.val ∗ homePair c X k.val
          ∗ outPair c (OUT c X arg1 fw v1 v3 v5) k.val ∗ donePair c (OUT c X arg1 fw v1 v3 v5) (k.val - 4))) := by
  have d1 := chk1_ok k
  have d2 := chk2_ok k
  have d3 := chk3_ok k
  have e9 := cond9_no k h5
  have e10 := cond10_no k h5
  have e11 := cond11_yes k
  have e12 := cond12_yes k
  have e13 := cond13_yes k h4
  unfold inPair homePair freePair todoPair donePair outPair
  rw [freeOut_four k.val h4]
  iintro ⟨⟨HW1, ⟨%W, HW⟩⟩, ⟨⟨%ra, HA⟩, ⟨%rb, HB⟩⟩, ⟨⟨%oa, OA⟩, ⟨%ob, OB⟩⟩, ⟨%wa, COA⟩, ⟨%wb, COB⟩⟩
  dsimp only [tripG, words]
  sl_unfold [k0_t1_body]
  sl_exec
  sl_step
  isplitr
  · ipureintro; clear * -; revert k; decide +kernel
  isplitl [HW1 HW]
  · isplitl [HW1]; · iexact HW1
    iexists _; iexact HW
  isplitl [HA HA_dst HB HB_dst]
  · isplitl [HA HA_dst]
    · isplitl [HA]; · iexact HA
      iexists _; iexact HA_dst
    · isplitl [HB]; · iexact HB
      iexists _; iexact HB_dst
  isplitl [HA_src HB_src]
  · isplitl [HA_src] <;> iassumption
  isplitl [COA COB]
  · isplitl [COA]
    · iapply (outA_intro c (OUT c X arg1 fw v1 v3 v5) (Ring.sl 4 k.val) (Ring.bk 20 k.val) (stored_A c X arg1 fw v1 v3 v5 (off45_eq k) (off44_eq k) _ _ _ _ _) (resP_out c X v1 v3 v5 _ _ _))
      iexact COA
    · iapply (outB_intro c (OUT c X arg1 fw v1 v3 v5) (Ring.sl 4 k.val) (Ring.bk 20 (k.val + 10)) (stored_B c X arg1 fw v1 v3 v5 (off45_eq k) (off49_eq k) _ _ _ _ _) (resP_out c X v1 v3 v5 _ _ _))
      iexact COB
  isplitl [COA_dst] <;> iassumption

end Trip

end Cert.Proof.Mlp

end
-- ==== Proof.Loop.lean ====
/-
  The loop: what is held before each of its ten trips.
-/
module

public import proofs.«01_k».proof.Proof.Trip

@[expose] public section

noncomputable section

namespace Cert.Proof.Mlp

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- `Φ` at every number from `a` up to `b`. -/
def spanned (Φ : ℕ → sProp 𝕄) (a b : ℕ) : sProp 𝕄 := bigSep (Finset.Ico a b) Φ

theorem spanned_left (Φ : ℕ → sProp 𝕄) (a b : ℕ) (h : a < b) : spanned Φ a b = iprop(Φ a ∗ spanned Φ (a + 1) b) := by
  unfold spanned
  rw [show Finset.Ico a b = insert a (Finset.Ico (a + 1) b) from by ext i; simp only [Finset.mem_Ico, Finset.mem_insert]; omega]
  exact bigSep_insert (by simp)
theorem spanned_right (Φ : ℕ → sProp 𝕄) (a b : ℕ) (h : a ≤ b) : spanned Φ a (b + 1) = iprop(Φ b ∗ spanned Φ a b) := by
  unfold spanned
  rw [show Finset.Ico a (b + 1) = insert b (Finset.Ico a b) from by ext i; simp only [Finset.mem_Ico, Finset.mem_insert]; omega]
  exact bigSep_insert (by simp)
theorem spanned_none (Φ : ℕ → sProp 𝕄) (a b : ℕ) (h : b ≤ a) : spanned Φ a b = (BI.emp : sProp 𝕄) := by
  unfold spanned; rw [Finset.Ico_eq_empty (by omega)]; exact bigSep_empty

section Loop

variable (c : Dev nD) (X : Buf (Elt F) (xM.view.loc (c : Thread nD τ)))
  (arg1 : Memref sig .tc .vmem S128x256 .f32) (harg1 : arg1.IsWhole)
  (arg2 : Memref sig .tc .vmem S1x256 .f32) (harg2 : arg2.IsWhole)
  (arg3 : Memref sig .tc .vmem S256x128 .f32) (harg3 : arg3.IsWhole)
  (arg4 : Memref sig .tc .vmem S1x128 .f32) (harg4 : arg4.IsWhole)
  (fw : Buf (Elt F) (arg1.view.loc (c : Thread nD τ)))
  (v1 : FVec F S256x128 .bf16) (v3 : FVec F S1x256 .f32) (v5 : FVec F S1x128 .f32) (v65 v70 v117 v124 v131 : BitVec 32)

/-- Before trip `k` the copies in of the blocks below `lim k` have been started. -/
def lim (k : ℕ) : ℕ := min (k + 5) 10

/-- What is held before trip `k`. -/
def heldAt (k : ℕ) : sProp 𝕄 :=
  iprop(keeps c arg1 fw
    ∗ spanned (inPair c X) k (lim k) ∗ spanned (freePair c) (lim k) (k + 6)
    ∗ spanned (homePair c X) 0 k ∗ spanned (homePair c X) (lim k) 10
    ∗ spanned (outPair c (OUT c X arg1 fw v1 v3 v5)) (k - 4) k ∗ spanned (freeOut c) k 4
    ∗ spanned (todoPair c) k 10 ∗ spanned (donePair c (OUT c X arg1 fw v1 v3 v5)) 0 (k - 4))

theorem heldAt_step (k : Fin k0_t1_loop.trips) :
    heldAt c X arg1 fw v1 v3 v5 k.val
    ⊢ wp frame (wpE (defs₀ (F := F)) 𝒱₀ (c : Thread nD τ) none) Set.univ (tripG arg1 harg1 arg2 harg2 arg3 harg3 arg4 harg4 v1 v3 v5 v65 v70 v117 v124 v131 k (words k.val))
        (fun a => iprop(⌜a = words (k.val + 1)⌝ ∗ heldAt c X arg1 fw v1 v3 v5 (k.val + 1))) := by
  have hk : k.val < 10 := by have h := k.isLt; have e := trips_eq; omega
  unfold heldAt
  rw [spanned_left (todoPair c) k.val 10 hk, spanned_right (homePair c X) 0 k.val (Nat.zero_le _)]
  by_cases h4 : 4 ≤ k.val
  · have hr : k.val + 1 - 4 = k.val - 4 + 1 := by omega
    rw [spanned_none (freeOut c) k.val 4 h4, spanned_none (freeOut c) (k.val + 1) 4 (by omega), hr,
      spanned_left (outPair c _) (k.val - 4) k.val (by omega), spanned_right (outPair c _) (k.val - 4 + 1) k.val (by omega),
      spanned_right (donePair c _) 0 (k.val - 4) (Nat.zero_le _)]
    by_cases h5 : k.val + 5 < 10
    · have l0 : lim k.val = k.val + 5 := by unfold lim; omega
      have l1 : lim (k.val + 1) = k.val + 5 + 1 := by unfold lim; omega
      rw [l0, l1, spanned_left (inPair c X) k.val (k.val + 5) (by omega), spanned_right (inPair c X) (k.val + 1) (k.val + 5) (by omega),
        spanned_left (freePair c) (k.val + 5) (k.val + 6) (by omega), spanned_none (freePair c) (k.val + 5 + 1) (k.val + 6) (by omega),
        show k.val + 1 + 6 = k.val + 6 + 1 from rfl, spanned_right (freePair c) (k.val + 5 + 1) (k.val + 6) (by omega), spanned_none (freePair c) (k.val + 5 + 1) (k.val + 6) (by omega),
        freePair_six, spanned_left (homePair c X) (k.val + 5) 10 h5]
      iintro ⟨K, ⟨I0, I⟩, ⟨F0, F⟩, H, ⟨H5, H'⟩, ⟨O0, O⟩, E, ⟨T0, T⟩, D⟩
      iapply (wp_wand_r Idealize.ShloMosaic.frame (wpE (defs₀ (F := F)) 𝒱₀ (c : Thread nD τ) none) Set.univ)
      isplitl [K I0 H5 F0 T0 O0]
      · iapply (trip2 c X arg1 harg1 arg2 harg2 arg3 harg3 arg4 harg4 fw v1 v3 v5 v65 v70 v117 v124 v131 k h4 h5)
        iframe
      · iintro %a ⟨%ea, K, F0, Hk, I5, O4, D4⟩
        isplitr; · ipureintro; exact ea
        iframe
    · have l0 : lim k.val = 10 := by unfold lim; omega
      have l1 : lim (k.val + 1) = 10 := by unfold lim; omega
      rw [l0, l1, spanned_left (inPair c X) k.val 10 (by omega),
        show k.val + 1 + 6 = k.val + 6 + 1 from rfl, spanned_right (freePair c) 10 (k.val + 6) (by omega), freePair_six]
      iintro ⟨K, ⟨I0, I⟩, F, H, H', ⟨O0, O⟩, E, ⟨T0, T⟩, D⟩
      iapply (wp_wand_r Idealize.ShloMosaic.frame (wpE (defs₀ (F := F)) 𝒱₀ (c : Thread nD τ) none) Set.univ)
      isplitl [K I0 T0 O0]
      · iapply (trip3 c X arg1 harg1 arg2 harg2 arg3 harg3 arg4 harg4 fw v1 v3 v5 v65 v70 v117 v124 v131 k h4 h5)
        iframe
      · iintro %a ⟨%ea, K, F0, Hk, O4, D4⟩
        isplitr; · ipureintro; exact ea
        iframe
  · have h5 : k.val + 5 < 10 := by omega
    have hr : k.val + 1 - 4 = 0 := by omega
    have hr' : k.val - 4 = 0 := by omega
    have l0 : lim k.val = k.val + 5 := by unfold lim; omega
    have l1 : lim (k.val + 1) = k.val + 5 + 1 := by unfold lim; omega
    rw [spanned_left (freeOut c) k.val 4 (by omega), hr, hr', spanned_right (outPair c _) 0 k.val (by omega),
      l0, l1, spanned_left (inPair c X) k.val (k.val + 5) (by omega), spanned_right (inPair c X) (k.val + 1) (k.val + 5) (by omega),
      spanned_left (freePair c) (k.val + 5) (k.val + 6) (by omega), spanned_none (freePair c) (k.val + 5 + 1) (k.val + 6) (by omega),
      show k.val + 1 + 6 = k.val + 6 + 1 from rfl, spanned_right (freePair c) (k.val + 5 + 1) (k.val + 6) (by omega), spanned_none (freePair c) (k.val + 5 + 1) (k.val + 6) (by omega),
      freePair_six, spanned_left (homePair c X) (k.val + 5) 10 h5]
    iintro ⟨K, ⟨I0, I⟩, ⟨F0, F⟩, H, ⟨H5, H'⟩, O, ⟨O0, E⟩, ⟨T0, T⟩, D⟩
    iapply (wp_wand_r Idealize.ShloMosaic.frame (wpE (defs₀ (F := F)) 𝒱₀ (c : Thread nD τ) none) Set.univ)
    isplitl [K I0 H5 F0 T0 O0]
    · iapply (trip1 c X arg1 harg1 arg2 harg2 arg3 harg3 arg4 harg4 fw v1 v3 v5 v65 v70 v117 v124 v131 k h4 h5)
      iframe
    · iintro %a ⟨%ea, K, F0, Hk, I5, O4⟩
      isplitr; · ipureintro; exact ea
      iframe

set_option warn.classDefReducibility false in
/-- The loop's invariant. -/
@[sl_loop] def loopInv (init : BitVec 32 × BitVec 32 × BitVec 32 × BitVec 32 × BitVec 32) :
    LoopInvTy_k0_t1 (F := F) Unit ℕ (UU nD τ) ℕ 𝒱₀ c none Set.univ xM (Memref.isWhole_whole _) arg1 harg1 arg2 harg2 arg3 harg3 arg4 harg4 oM (Memref.isWhole_whole _)
      wbufA (Memref.isWhole_whole _) wbufB (Memref.isWhole_whole _) cc0_scratch2 rbufA (Memref.isWhole_whole _) cc0_scoped1 rbufB (Memref.isWhole_whole _) cc0_scoped3
      v1 v3 v5 v65 v70 v117 v124 v131 init where
  inv k acc := iprop(⌜acc = words k⌝ ∗ heldAt c X arg1 fw v1 v3 v5 k)
  step k acc := by
    iintro ⟨%e, H⟩
    subst e
    iapply (heldAt_step c X arg1 harg1 arg2 harg2 arg3 harg3 arg4 harg4 fw v1 v3 v5 v65 v70 v117 v124 v131 k)
    iexact H

end Loop

end Cert.Proof.Mlp

end
-- ==== Proof.Body.lean ====
/-
  The kernel's body: the first five copies in of either stream, the loop, the last four copies out of either stream.
-/
module

public import proofs.«01_k».proof.Proof.Loop

@[expose] public section

noncomputable section

namespace Cert.Proof.Mlp

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The slices before and after the loop -/

@[sl_canon] theorem qA0c (hh) : (cc0_scoped1.slice (Rect.unit (s := S6) k0_off1 S1.size hh)).squeeze S_ squeezes_S1_S_ = rcA (Ring.sl 6 0) := rcA_congr (by decide) _
@[sl_canon] theorem qA0s (hh hs) : (rbufA.slice (Rect.unit (s := S6x5000x128) k0_off2 S1x5000x128.size hh) hs).squeeze S5000x128 squeezes_S1x5000x128_S5000x128 = rsA (Ring.sl 6 0) := rsA_congr (by decide) _ _
@[sl_canon] theorem qA0x (hh hs) : xM.slice (Rect.unit (s := S100000x128) ![0, 0] S5000x128.size hh) hs = xblk (Ring.bk 20 0) := xblk_congr (by decide) _ _
@[sl_canon] theorem qB0c (hh) : (cc0_scoped3.slice (Rect.unit (s := S6) k0_off1 S1.size hh)).squeeze S_ squeezes_S1_S_ = rcB (Ring.sl 6 0) := rcB_congr (by decide) _
@[sl_canon] theorem qB0s (hh hs) : (rbufB.slice (Rect.unit (s := S6x5000x128) k0_off2 S1x5000x128.size hh) hs).squeeze S5000x128 squeezes_S1x5000x128_S5000x128 = rsB (Ring.sl 6 0) := rsB_congr (by decide) _ _
@[sl_canon] theorem qB0x (hh hs) : xM.slice (Rect.unit (s := S100000x128) ![50000, 0] S5000x128.size hh) hs = xblk (Ring.bk 20 (0 + 10)) := xblk_congr (by decide) _ _
@[sl_canon] theorem qA1c (hh) : (cc0_scoped1.slice (Rect.unit (s := S6) k0_off3 S1.size hh)).squeeze S_ squeezes_S1_S_ = rcA (Ring.sl 6 1) := rcA_congr (by decide) _
@[sl_canon] theorem qA1s (hh hs) : (rbufA.slice (Rect.unit (s := S6x5000x128) k0_off4 S1x5000x128.size hh) hs).squeeze S5000x128 squeezes_S1x5000x128_S5000x128 = rsA (Ring.sl 6 1) := rsA_congr (by decide) _ _
@[sl_canon] theorem qA1x (hh hs) : xM.slice (Rect.unit (s := S100000x128) k0_off5 S5000x128.size hh) hs = xblk (Ring.bk 20 1) := xblk_congr (by decide) _ _
@[sl_canon] theorem qB1c (hh) : (cc0_scoped3.slice (Rect.unit (s := S6) k0_off6 S1.size hh)).squeeze S_ squeezes_S1_S_ = rcB (Ring.sl 6 1) := rcB_congr (by decide) _
@[sl_canon] theorem qB1s (hh hs) : (rbufB.slice (Rect.unit (s := S6x5000x128) k0_off7 S1x5000x128.size hh) hs).squeeze S5000x128 squeezes_S1x5000x128_S5000x128 = rsB (Ring.sl 6 1) := rsB_congr (by decide) _ _
@[sl_canon] theorem qB1x (hh hs) : xM.slice (Rect.unit (s := S100000x128) k0_off8 S5000x128.size hh) hs = xblk (Ring.bk 20 (1 + 10)) := xblk_congr (by decide) _ _
@[sl_canon] theorem qA2c (hh) : (cc0_scoped1.slice (Rect.unit (s := S6) k0_off9 S1.size hh)).squeeze S_ squeezes_S1_S_ = rcA (Ring.sl 6 2) := rcA_congr (by decide) _
@[sl_canon] theorem qA2s (hh hs) : (rbufA.slice (Rect.unit (s := S6x5000x128) k0_off10 S1x5000x128.size hh) hs).squeeze S5000x128 squeezes_S1x5000x128_S5000x128 = rsA (Ring.sl 6 2) := rsA_congr (by decide) _ _
@[sl_canon] theorem qA2x (hh hs) : xM.slice (Rect.unit (s := S100000x128) k0_off11 S5000x128.size hh) hs = xblk (Ring.bk 20 2) := xblk_congr (by decide) _ _
@[sl_canon] theorem qB2c (hh) : (cc0_scoped3.slice (Rect.unit (s := S6) k0_off12 S1.size hh)).squeeze S_ squeezes_S1_S_ = rcB (Ring.sl 6 2) := rcB_congr (by decide) _
@[sl_canon] theorem qB2s (hh hs) : (rbufB.slice (Rect.unit (s := S6x5000x128) k0_off13 S1x5000x128.size hh) hs).squeeze S5000x128 squeezes_S1x5000x128_S5000x128 = rsB (Ring.sl 6 2) := rsB_congr (by decide) _ _
@[sl_canon] theorem qB2x (hh hs) : xM.slice (Rect.unit (s := S100000x128) k0_off14 S5000x128.size hh) hs = xblk (Ring.bk 20 (2 + 10)) := xblk_congr (by decide) _ _
@[sl_canon] theorem qA3c (hh) : (cc0_scoped1.slice (Rect.unit (s := S6) k0_off15 S1.size hh)).squeeze S_ squeezes_S1_S_ = rcA (Ring.sl 6 3) := rcA_congr (by decide) _
@[sl_canon] theorem qA3s (hh hs) : (rbufA.slice (Rect.unit (s := S6x5000x128) k0_off16 S1x5000x128.size hh) hs).squeeze S5000x128 squeezes_S1x5000x128_S5000x128 = rsA (Ring.sl 6 3) := rsA_congr (by decide) _ _
@[sl_canon] theorem qA3x (hh hs) : xM.slice (Rect.unit (s := S100000x128) k0_off17 S5000x128.size hh) hs = xblk (Ring.bk 20 3) := xblk_congr (by decide) _ _
@[sl_canon] theorem qB3c (hh) : (cc0_scoped3.slice (Rect.unit (s := S6) k0_off18 S1.size hh)).squeeze S_ squeezes_S1_S_ = rcB (Ring.sl 6 3) := rcB_congr (by decide) _
@[sl_canon] theorem qB3s (hh hs) : (rbufB.slice (Rect.unit (s := S6x5000x128) k0_off19 S1x5000x128.size hh) hs).squeeze S5000x128 squeezes_S1x5000x128_S5000x128 = rsB (Ring.sl 6 3) := rsB_congr (by decide) _ _
@[sl_canon] theorem qB3x (hh hs) : xM.slice (Rect.unit (s := S100000x128) k0_off20 S5000x128.size hh) hs = xblk (Ring.bk 20 (3 + 10)) := xblk_congr (by decide) _ _
@[sl_canon] theorem qA4c (hh) : (cc0_scoped1.slice (Rect.unit (s := S6) k0_off21 S1.size hh)).squeeze S_ squeezes_S1_S_ = rcA (Ring.sl 6 4) := rcA_congr (by decide) _
@[sl_canon] theorem qA4s (hh hs) : (rbufA.slice (Rect.unit (s := S6x5000x128) k0_off22 S1x5000x128.size hh) hs).squeeze S5000x128 squeezes_S1x5000x128_S5000x128 = rsA (Ring.sl 6 4) := rsA_congr (by decide) _ _
@[sl_canon] theorem qA4x (hh hs) : xM.slice (Rect.unit (s := S100000x128) k0_off23 S5000x128.size hh) hs = xblk (Ring.bk 20 4) := xblk_congr (by decide) _ _
@[sl_canon] theorem qB4c (hh) : (cc0_scoped3.slice (Rect.unit (s := S6) k0_off24 S1.size hh)).squeeze S_ squeezes_S1_S_ = rcB (Ring.sl 6 4) := rcB_congr (by decide) _
@[sl_canon] theorem qB4s (hh hs) : (rbufB.slice (Rect.unit (s := S6x5000x128) k0_off25 S1x5000x128.size hh) hs).squeeze S5000x128 squeezes_S1x5000x128_S5000x128 = rsB (Ring.sl 6 4) := rsB_congr (by decide) _ _
@[sl_canon] theorem qB4x (hh hs) : xM.slice (Rect.unit (s := S100000x128) k0_off26 S5000x128.size hh) hs = xblk (Ring.bk 20 (4 + 10)) := xblk_congr (by decide) _ _
@[sl_canon] theorem zA6c (hh) : (cc0_scratch2.slice (Rect.unit (s := S2x4) ![0, 2] S1x1.size hh)).squeeze S_ squeezes_S1x1_S_ = wc 0 (Ring.sl 4 6) := wc_congr (by decide) _
@[sl_canon] theorem zA6s (hh hs) : (wbufA.slice (Rect.unit (s := S4x5000x128) ![2, 0, 0] S1x5000x128.size hh) hs).squeeze S5000x128 squeezes_S1x5000x128_S5000x128 = wsA (Ring.sl 4 6) := wsA_congr (by decide) _ _
@[sl_canon] theorem zA6o (hh hs) : oM.slice (Rect.unit (s := S100000x128) ![30000, 0] S5000x128.size hh) hs = oblk (Ring.bk 20 6) := oblk_congr (by decide) _ _
@[sl_canon] theorem zB6c (hh) : (cc0_scratch2.slice (Rect.unit (s := S2x4) ![1, 2] S1x1.size hh)).squeeze S_ squeezes_S1x1_S_ = wc 1 (Ring.sl 4 6) := wc_congr (by decide) _
@[sl_canon] theorem zB6s (hh hs) : (wbufB.slice (Rect.unit (s := S4x5000x128) ![2, 0, 0] S1x5000x128.size hh) hs).squeeze S5000x128 squeezes_S1x5000x128_S5000x128 = wsB (Ring.sl 4 6) := wsB_congr (by decide) _ _
@[sl_canon] theorem zB6o (hh hs) : oM.slice (Rect.unit (s := S100000x128) ![80000, 0] S5000x128.size hh) hs = oblk (Ring.bk 20 (6 + 10)) := oblk_congr (by decide) _ _
@[sl_canon] theorem zA7c (hh) : (cc0_scratch2.slice (Rect.unit (s := S2x4) ![0, 3] S1x1.size hh)).squeeze S_ squeezes_S1x1_S_ = wc 0 (Ring.sl 4 7) := wc_congr (by decide) _
@[sl_canon] theorem zA7s (hh hs) : (wbufA.slice (Rect.unit (s := S4x5000x128) ![3, 0, 0] S1x5000x128.size hh) hs).squeeze S5000x128 squeezes_S1x5000x128_S5000x128 = wsA (Ring.sl 4 7) := wsA_congr (by decide) _ _
@[sl_canon] theorem zA7o (hh hs) : oM.slice (Rect.unit (s := S100000x128) ![35000, 0] S5000x128.size hh) hs = oblk (Ring.bk 20 7) := oblk_congr (by decide) _ _
@[sl_canon] theorem zB7c (hh) : (cc0_scratch2.slice (Rect.unit (s := S2x4) ![1, 3] S1x1.size hh)).squeeze S_ squeezes_S1x1_S_ = wc 1 (Ring.sl 4 7) := wc_congr (by decide) _
@[sl_canon] theorem zB7s (hh hs) : (wbufB.slice (Rect.unit (s := S4x5000x128) ![3, 0, 0] S1x5000x128.size hh) hs).squeeze S5000x128 squeezes_S1x5000x128_S5000x128 = wsB (Ring.sl 4 7) := wsB_congr (by decide) _ _
@[sl_canon] theorem zB7o (hh hs) : oM.slice (Rect.unit (s := S100000x128) ![85000, 0] S5000x128.size hh) hs = oblk (Ring.bk 20 (7 + 10)) := oblk_congr (by decide) _ _
@[sl_canon] theorem zA8c (hh) : (cc0_scratch2.slice (Rect.unit (s := S2x4) ![0, 0] S1x1.size hh)).squeeze S_ squeezes_S1x1_S_ = wc 0 (Ring.sl 4 8) := wc_congr (by decide) _
@[sl_canon] theorem zA8s (hh hs) : (wbufA.slice (Rect.unit (s := S4x5000x128) ![0, 0, 0] S1x5000x128.size hh) hs).squeeze S5000x128 squeezes_S1x5000x128_S5000x128 = wsA (Ring.sl 4 8) := wsA_congr (by decide) _ _
@[sl_canon] theorem zA8o (hh hs) : oM.slice (Rect.unit (s := S100000x128) ![40000, 0] S5000x128.size hh) hs = oblk (Ring.bk 20 8) := oblk_congr (by decide) _ _
@[sl_canon] theorem zB8c (hh) : (cc0_scratch2.slice (Rect.unit (s := S2x4) ![1, 0] S1x1.size hh)).squeeze S_ squeezes_S1x1_S_ = wc 1 (Ring.sl 4 8) := wc_congr (by decide) _
@[sl_canon] theorem zB8s (hh hs) : (wbufB.slice (Rect.unit (s := S4x5000x128) ![0, 0, 0] S1x5000x128.size hh) hs).squeeze S5000x128 squeezes_S1x5000x128_S5000x128 = wsB (Ring.sl 4 8) := wsB_congr (by decide) _ _
@[sl_canon] theorem zB8o (hh hs) : oM.slice (Rect.unit (s := S100000x128) ![90000, 0] S5000x128.size hh) hs = oblk (Ring.bk 20 (8 + 10)) := oblk_congr (by decide) _ _
@[sl_canon] theorem zA9c (hh) : (cc0_scratch2.slice (Rect.unit (s := S2x4) ![0, 1] S1x1.size hh)).squeeze S_ squeezes_S1x1_S_ = wc 0 (Ring.sl 4 9) := wc_congr (by decide) _
@[sl_canon] theorem zA9s (hh hs) : (wbufA.slice (Rect.unit (s := S4x5000x128) ![1, 0, 0] S1x5000x128.size hh) hs).squeeze S5000x128 squeezes_S1x5000x128_S5000x128 = wsA (Ring.sl 4 9) := wsA_congr (by decide) _ _
@[sl_canon] theorem zA9o (hh hs) : oM.slice (Rect.unit (s := S100000x128) ![45000, 0] S5000x128.size hh) hs = oblk (Ring.bk 20 9) := oblk_congr (by decide) _ _
@[sl_canon] theorem zB9c (hh) : (cc0_scratch2.slice (Rect.unit (s := S2x4) ![1, 1] S1x1.size hh)).squeeze S_ squeezes_S1x1_S_ = wc 1 (Ring.sl 4 9) := wc_congr (by decide) _
@[sl_canon] theorem zB9s (hh hs) : (wbufB.slice (Rect.unit (s := S4x5000x128) ![1, 0, 0] S1x5000x128.size hh) hs).squeeze S5000x128 squeezes_S1x5000x128_S5000x128 = wsB (Ring.sl 4 9) := wsB_congr (by decide) _ _
@[sl_canon] theorem zB9o (hh hs) : oM.slice (Rect.unit (s := S100000x128) ![95000, 0] S5000x128.size hh) hs = oblk (Ring.bk 20 (9 + 10)) := oblk_congr (by decide) _ _

variable {F : FTy → Type} [FloatOps F]

local notation "𝕄" => MT nD τ sig Unit (Elt F) ℕ (UU nD τ) ℕ

theorem first_five (Φ : ℕ → sProp 𝕄) (b : ℕ) (h : 5 ≤ b) : spanned Φ 0 b = iprop(Φ 0 ∗ Φ 1 ∗ Φ 2 ∗ Φ 3 ∗ Φ 4 ∗ spanned Φ 5 b) := by
  rw [spanned_left Φ 0 b (by omega), spanned_left Φ (0 + 1) b (by omega), spanned_left Φ (0 + 1 + 1) b (by omega),
    spanned_left Φ (0 + 1 + 1 + 1) b (by omega), spanned_left Φ (0 + 1 + 1 + 1 + 1) b (by omega)]
theorem last_four (Φ : ℕ → sProp 𝕄) : spanned Φ 6 10 = iprop(Φ 6 ∗ Φ 7 ∗ Φ 8 ∗ Φ 9) := by
  rw [spanned_left Φ 6 10 (by omega), spanned_left Φ (6 + 1) 10 (by omega), spanned_left Φ (6 + 1 + 1) 10 (by omega),
    spanned_left Φ (6 + 1 + 1 + 1) 10 (by omega), spanned_none Φ (6 + 1 + 1 + 1 + 1) 10 (by omega)]
  exact congrArg (fun P => iprop(Φ 6 ∗ Φ 7 ∗ Φ 8 ∗ P)) (sep_emp_eq (Φ 9))

theorem freePair_ring (c : Dev nD) : spanned (freePair (F := F) c) 10 16 ⊢ spanned (freePair c) 0 6 := by
  have e : ∀ p, freePair (F := F) c (p + 6) = freePair c p := freePair_six c
  rw [first_five _ 6 (by decide), spanned_left _ 5 6 (by decide), spanned_none _ (5 + 1) 6 (by decide),
    spanned_left _ 10 16 (by decide), spanned_left _ (10 + 1) 16 (by decide), spanned_left _ (10 + 1 + 1) 16 (by decide), spanned_left _ (10 + 1 + 1 + 1) 16 (by decide),
    spanned_left _ (10 + 1 + 1 + 1 + 1) 16 (by decide), spanned_left _ (10 + 1 + 1 + 1 + 1 + 1) 16 (by decide), spanned_none _ (10 + 1 + 1 + 1 + 1 + 1 + 1) 16 (by decide)]
  rw [show (10 + 1 + 1 + 1 + 1 + 1) = 3 + 6 + 6 from rfl, show (10 + 1 + 1 + 1 + 1) = 2 + 6 + 6 from rfl, show (10 + 1 + 1 + 1) = 1 + 6 + 6 from rfl,
    show (10 + 1 + 1) = 0 + 6 + 6 from rfl, show (10 + 1) = 5 + 6 from rfl, show freePair (F := F) c 10 = freePair c (4 + 6) from rfl]
  simp only [e]
  iintro ⟨H4, H5, H0, H1, H2, H3, E⟩
  iframe
theorem freeOut_ring (c : Dev nD) : iprop(freeOut (F := F) c 6 ∗ freeOut c 7 ∗ freeOut c 8 ∗ freeOut c 9) ⊢ spanned (freeOut c) 0 4 := by
  have e : ∀ p, freeOut (F := F) c (p + 4) = freeOut c p := fun p => by unfold freeOut; rw [Ring.sl_add]
  rw [spanned_left _ 0 4 (by decide), spanned_left _ (0 + 1) 4 (by decide), spanned_left _ (0 + 1 + 1) 4 (by decide), spanned_left _ (0 + 1 + 1 + 1) 4 (by decide),
    spanned_none _ (0 + 1 + 1 + 1 + 1) 4 (by decide), show freeOut (F := F) c 6 = freeOut c (2 + 4) from rfl, show freeOut (F := F) c 7 = freeOut c (3 + 4) from rfl,
    show freeOut (F := F) c 8 = freeOut c (0 + 4 + 4) from rfl, show freeOut (F := F) c 9 = freeOut c (1 + 4 + 4) from rfl]
  simp only [e]
  iintro ⟨H2, H3, H0, H1⟩
  iframe
  iempintro
theorem done_all (Φ : ℕ → sProp 𝕄) : iprop(spanned Φ 0 6 ∗ Φ 6 ∗ Φ 7 ∗ Φ 8 ∗ Φ 9) ⊢ spanned Φ 0 10 := by
  rw [show (10 : ℕ) = 6 + 1 + 1 + 1 + 1 from rfl, spanned_right Φ 0 (6 + 1 + 1 + 1) (by decide), spanned_right Φ 0 (6 + 1 + 1) (by decide),
    spanned_right Φ 0 (6 + 1) (by decide), spanned_right Φ 0 6 (by decide)]
  iintro ⟨H, H6, H7, H8, H9⟩
  iframe

section Ends
variable (c : Dev nD) (X : Buf (Elt F) (xM.view.loc (c : Thread nD τ))) (arg1 : Memref sig .tc .vmem S128x256 .f32)
  (fw : Buf (Elt F) (arg1.view.loc (c : Thread nD τ))) (v1 : FVec F S256x128 .bf16) (v3 : FVec F S1x256 .f32) (v5 : FVec F S1x128 .f32)

/-- What is held at the loop's entry. -/
theorem heldAt_entry :
    iprop(keeps c arg1 fw ∗ (inPair c X 0 ∗ inPair c X 1 ∗ inPair c X 2 ∗ inPair c X 3 ∗ inPair c X 4) ∗ spanned (freePair c) 5 6 ∗ spanned (homePair c X) 5 10
      ∗ spanned (freeOut c) 0 4 ∗ spanned (todoPair c) 0 10) ⊢ heldAt c X arg1 fw v1 v3 v5 0 := by
  unfold heldAt
  rw [show lim 0 = 5 from rfl, first_five (inPair c X) 5 (by decide), spanned_none (inPair c X) 5 5 (by decide), spanned_none (homePair c X) 0 0 (by decide),
    spanned_none (outPair c _) (0 - 4) 0 (by decide), spanned_none (donePair c _) 0 (0 - 4) (by decide)]
  iintro ⟨K, ⟨I0, I1, I2, I3, I4⟩, F, H, O, T⟩
  iframe
  repeat' (first | iempintro | isplitl [])
/-- What is held at the loop's exit. -/
theorem heldAt_exit :
    heldAt c X arg1 fw v1 v3 v5 10 ⊢ iprop(keeps c arg1 fw ∗ spanned (freePair c) 0 6 ∗ spanned (homePair c X) 0 10
      ∗ (outPair c (OUT c X arg1 fw v1 v3 v5) 6 ∗ outPair c (OUT c X arg1 fw v1 v3 v5) 7 ∗ outPair c (OUT c X arg1 fw v1 v3 v5) 8 ∗ outPair c (OUT c X arg1 fw v1 v3 v5) 9)
      ∗ spanned (donePair c (OUT c X arg1 fw v1 v3 v5)) 0 6) := by
  unfold heldAt
  rw [show lim 10 = 10 from rfl, spanned_none (inPair c X) 10 10 (by decide), spanned_none (homePair c X) 10 10 (by decide), spanned_none (freeOut c) 10 4 (by decide),
    spanned_none (todoPair c) 10 10 (by decide), show 10 - 4 = 6 from rfl, show 10 + 6 = 16 from rfl, last_four]
  iintro ⟨K, E1, F, H, E2, O, E3, E4, D⟩
  ihave F' := (freePair_ring c) $$ F
  iframe

end Ends

section Body

variable (c : Dev nD) (X : Buf (Elt F) (xM.view.loc (c : Thread nD τ)))
  (arg1 : Memref sig .tc .vmem S128x256 .f32) (harg1 : arg1.IsWhole)
  (arg2 : Memref sig .tc .vmem S1x256 .f32) (harg2 : arg2.IsWhole)
  (arg3 : Memref sig .tc .vmem S256x128 .f32) (harg3 : arg3.IsWhole)
  (arg4 : Memref sig .tc .vmem S1x128 .f32) (harg4 : arg4.IsWhole)
  (f1 : Buf (Elt F) (arg1.view.loc (c : Thread nD τ))) (f2 : Buf (Elt F) (arg2.view.loc (c : Thread nD τ)))
  (f3 : Buf (Elt F) (arg3.view.loc (c : Thread nD τ))) (f4 : Buf (Elt F) (arg4.view.loc (c : Thread nD τ)))

abbrev bodyG : Prog (TpuEff nD τ sig (Elt F) Λ₀ .tc) PUnit :=
  cc0__outer xM (Memref.isWhole_whole _) arg1 harg1 arg2 harg2 arg3 harg3 arg4 harg4 oM (Memref.isWhole_whole _)
    wbufA (Memref.isWhole_whole _) wbufB (Memref.isWhole_whole _) cc0_scratch2 rbufA (Memref.isWhole_whole _) cc0_scoped1 rbufB (Memref.isWhole_whole _) cc0_scoped3

/-- The staged weights and biases. -/
abbrev argsP : sProp 𝕄 :=
  iprop((arg1.view.loc (c : Thread nD τ) ↦[arg1.view.set]{fullShare} f1) ∗ (arg2.view.loc (c : Thread nD τ) ↦[arg2.view.set]{fullShare} f2)
    ∗ (arg3.view.loc (c : Thread nD τ) ↦[arg3.view.set]{fullShare} f3) ∗ (arg4.view.loc (c : Thread nD τ) ↦[arg4.view.set]{fullShare} f4))

/-- The second layer's weights as the loop uses them. -/
abbrev u1 : FVec F S256x128 .bf16 := k0_pay3 (arg3.view.readAt (Elt F) (Rect.unit (s := S256x128) ![0, 0] S256x128.size inb_S256x128_S256x128_0_0).toLoadRect f3)
/-- The first layer's bias as the loop uses it. -/
abbrev u3 : FVec F S1x256 .f32 := k0_pay4 (arg2.view.readAt (Elt F) (Rect.unit (s := S1x256) ![0, 0] S1x256.size inb_S1x256_S1x256_0_0).toLoadRect f2)
/-- The second layer's bias as the loop uses it. -/
abbrev u5 : FVec F S1x128 .f32 := k0_pay5 (arg4.view.readAt (Elt F) (Rect.unit (s := S1x128) ![0, 0] S1x128.size inb_S1x128_S1x128_0_0).toLoadRect f4)

/-- What the body leaves: every block of the result at its contents, everything else as it was. -/
def bodyPost : sProp 𝕄 :=
  iprop(argsP c arg1 arg2 arg3 arg4 f1 f2 f3 f4 ∗ (∃ W, owes (c : Thread nD τ) 0 W) ∗ spanned (homePair c X) 0 10 ∗ spanned (freePair c) 0 6 ∗ spanned (freeOut c) 0 4
    ∗ spanned (donePair c (OUT c X arg1 f1 (u1 c arg3 f3) (u3 c arg2 f2) (u5 c arg4 f4))) 0 10)

set_option backward.proofsInPublic true in
set_option maxHeartbeats 4000000 in
set_option maxRecDepth 20000 in
/-- The kernel's body, from every block and slot at rest to every block of the result written. -/
theorem bodyRun (W) (Q : PUnit → sProp 𝕄) :
    iprop((argsP c arg1 arg2 arg3 arg4 f1 f2 f3 f4 ∗ owes (c : Thread nD τ) 0 W ∗ spanned (homePair c X) 0 10 ∗ spanned (freePair c) 0 6 ∗ spanned (freeOut c) 0 4 ∗ spanned (todoPair c) 0 10)
      ∗ (bodyPost c X arg1 arg2 arg3 arg4 f1 f2 f3 f4 -∗ Q ⟨⟩))
      ⊢ wp frame (wpE (defs₀ (F := F)) 𝒱₀ (c : Thread nD τ) none) Set.univ (bodyG arg1 harg1 arg2 harg2 arg3 harg3 arg4 harg4) Q := by
  rw [first_five (homePair c X) 10 (by decide), first_five (freePair c) 6 (by decide)]
  iintro ⟨⟨⟨A1, A2, A3, A4⟩, HW, ⟨X0, X1, X2, X3, X4, X5⟩, ⟨S0, S1, S2, S3, S4, S5⟩, FO, TD⟩, Hk⟩
  unfold homePair freePair
  icases X0 with ⟨X0a, X0b⟩
  icases X1 with ⟨X1a, X1b⟩
  icases X2 with ⟨X2a, X2b⟩
  icases X3 with ⟨X3a, X3b⟩
  icases X4 with ⟨X4a, X4b⟩
  icases S0 with ⟨⟨C0a, ⟨%s0a, S0a⟩⟩, ⟨C0b, ⟨%s0b, S0b⟩⟩⟩
  icases S1 with ⟨⟨C1a, ⟨%s1a, S1a⟩⟩, ⟨C1b, ⟨%s1b, S1b⟩⟩⟩
  icases S2 with ⟨⟨C2a, ⟨%s2a, S2a⟩⟩, ⟨C2b, ⟨%s2b, S2b⟩⟩⟩
  icases S3 with ⟨⟨C3a, ⟨%s3a, S3a⟩⟩, ⟨C3b, ⟨%s3b, S3b⟩⟩⟩
  icases S4 with ⟨⟨C4a, ⟨%s4a, S4a⟩⟩, ⟨C4b, ⟨%s4b, S4b⟩⟩⟩
  sl_exec
  ihave HL := (heldAt_entry c X arg1 f1 (bodyRun.sl.r c arg3 f3) (bodyRun.sl.r_1 c arg2 f2) (bodyRun.sl.r_2 c arg4 f4)) $$ [A1 HW C0a C0b C1a C1b C2a C2b C3a C3b C4a C4b S5 X5 FO TD]
  · unfold inPair
    isplitl [A1 HW]
    · isplitl [A1]; · iexact A1
      iexists _; iexact HW
    isplitl [C0a C0b C1a C1b C2a C2b C3a C3b C4a C4b]
    · isplitl [C0a C0b]
      · isplitl [C0a]
        · iexists s0a; iexact C0a
        · iexists s0b; iexact C0b
      isplitl [C1a C1b]
      · isplitl [C1a]
        · iexists s1a; iexact C1a
        · iexists s1b; iexact C1b
      isplitl [C2a C2b]
      · isplitl [C2a]
        · iexists s2a; iexact C2a
        · iexists s2b; iexact C2b
      isplitl [C3a C3b]
      · isplitl [C3a]
        · iexists s3a; iexact C3a
        · iexists s3b; iexact C3b
      · isplitl [C4a]
        · iexists s4a; iexact C4a
        · iexists s4b; iexact C4b
    isplitl [S5]; · iexact S5
    isplitl [X5]; · iexact X5
    isplitl [FO]; · iexact FO
    iexact TD
  unfold heldAt keeps spanned
  icases HL with ⟨⟨A1, ⟨%W', HW⟩⟩, I, F, H0, H, O, FO, TD, D⟩
  sl_exec
  rw [show Scf.trips k0_t1_loop.lb k0_t1_loop.ub k0_t1_loop.st = 10 from trips_eq]
  ihave HX := (heldAt_exit c X arg1 f1 (bodyRun.sl.r c arg3 f3) (bodyRun.sl.r_1 c arg2 f2) (bodyRun.sl.r_2 c arg4 f4)) $$ [A1 HW I F H0 H O FO TD D]
  · unfold heldAt keeps spanned
    isplitl [A1 HW]
    · isplitl [A1]; · iexact A1
      iexists _; iexact HW
    isplitl [I]; · iexact I
    isplitl [F]; · iexact F
    isplitl [H0]; · iexact H0
    isplitl [H]; · iexact H
    isplitl [O]; · iexact O
    isplitl [FO]; · iexact FO
    isplitl [TD]; · iexact TD
    iexact D
  unfold keeps outPair
  icases HX with ⟨⟨A1, ⟨%W'', HW⟩⟩, F, H, ⟨⟨⟨%g6a, O6a⟩, ⟨%g6b, O6b⟩⟩, ⟨⟨%g7a, O7a⟩, ⟨%g7b, O7b⟩⟩, ⟨⟨%g8a, O8a⟩, ⟨%g8b, O8b⟩⟩, ⟨⟨%g9a, O9a⟩, ⟨%g9b, O9b⟩⟩⟩, D⟩
  sl_exec
  sl_step
  iapply Hk
  unfold bodyPost
  isplitl [A1 A2 A3 A4]
  · isplitl [A1]; · iexact A1
    isplitl [A2]; · iexact A2
    isplitl [A3]; · iexact A3
    iexact A4
  isplitl [HW]; · iexists _; iexact HW
  isplitl [H]; · iexact H
  isplitl [F]; · iexact F
  isplitl [O6a O6a_src O6b O6b_src O7a O7a_src O7b O7b_src O8a O8a_src O8b O8b_src O9a O9a_src O9b O9b_src]
  · iapply (freeOut_ring c)
    unfold freeOut
    isplitl [O6a O6a_src O6b O6b_src]
    · isplitl [O6a O6a_src]
      · isplitl [O6a]; · iexact O6a
        iexists _; iexact O6a_src
      · isplitl [O6b]; · iexact O6b
        iexists _; iexact O6b_src
    isplitl [O7a O7a_src O7b O7b_src]
    · isplitl [O7a O7a_src]
      · isplitl [O7a]; · iexact O7a
        iexists _; iexact O7a_src
      · isplitl [O7b]; · iexact O7b
        iexists _; iexact O7b_src
    isplitl [O8a O8a_src O8b O8b_src]
    · isplitl [O8a O8a_src]
      · isplitl [O8a]; · iexact O8a
        iexists _; iexact O8a_src
      · isplitl [O8b]; · iexact O8b
        iexists _; iexact O8b_src
    isplitl [O9a O9a_src]
    · isplitl [O9a]; · iexact O9a
      iexists _; iexact O9a_src
    · isplitl [O9b]; · iexact O9b
      iexists _; iexact O9b_src
  iapply (done_all _)
  isplitl [D]; · iexact D
  unfold donePair
  isplitl [O6a_dst O6b_dst]
  · isplitl [O6a_dst]; · iexact O6a_dst
    iexact O6b_dst
  isplitl [O7a_dst O7b_dst]
  · isplitl [O7a_dst]; · iexact O7a_dst
    iexact O7b_dst
  isplitl [O8a_dst O8b_dst]
  · isplitl [O8a_dst]; · iexact O8a_dst
    iexact O8b_dst
  isplitl [O9a_dst]; · iexact O9a_dst
  iexact O9b_dst

end Body

end Cert.Proof.Mlp

end
-- ==== Proof.Launch.lean ====
/-
  The launch: the operand split into its blocks and the slot buffers into their slots, the body run, and everything
  joined back; and from it the run of the whole program, with the result's contents.
-/
module

public import proofs.«01_k».proof.Proof.Body
public import Idealize.ShloMosaic.Lib.Pipeline.Routed

@[expose] public section

noncomputable section

namespace Cert.Proof.Mlp

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UU nD τ) ℕ

/-! ## The kernel's own semaphores -/

/-- The kernel's own semaphores: four and four of the output slots, six and six of the input slots. -/
abbrev osem : Fin 20 → SemLoc sig := fun j => .dma ⟨j.val + 4, by have := j.isLt; show _ < 24; omega⟩
/-- They are distinct and none is the pipeline's. -/
theorem ownSemFacts : Pipeline.OwnSemFacts spec0 osem := by decide
/-- Which of them is which slot's. -/
theorem osem_rcA : ∀ s : Fin 6, SemLoc.dma (rcA s).sem = osem ⟨8 + s.val, by omega⟩ := by decide
theorem osem_rcB : ∀ s : Fin 6, SemLoc.dma (rcB s).sem = osem ⟨14 + s.val, by omega⟩ := by decide
theorem osem_wc0 : ∀ s : Fin 4, SemLoc.dma (wc 0 s).sem = osem ⟨s.val, by omega⟩ := by decide
theorem osem_wc1 : ∀ s : Fin 4, SemLoc.dma (wc 1 s).sem = osem ⟨4 + s.val, by omega⟩ := by decide

/-! ## Finitely many pieces, spelled out -/

/-- Pieces counted from zero, one by one, -/
theorem first_ten (Φ : ℕ → sProp 𝕄) : spanned Φ 0 10 = iprop(Φ 0 ∗ Φ 1 ∗ Φ 2 ∗ Φ 3 ∗ Φ 4 ∗ Φ 5 ∗ Φ 6 ∗ Φ 7 ∗ Φ 8 ∗ Φ 9) := by
  rw [first_five Φ 10 (by decide), spanned_left Φ 5 10 (by decide), last_four]
theorem first_four (Φ : ℕ → sProp 𝕄) : spanned Φ 0 4 = iprop(Φ 0 ∗ Φ 1 ∗ Φ 2 ∗ Φ 3) := by
  rw [spanned_left Φ 0 4 (by decide), spanned_left Φ (0 + 1) 4 (by decide), spanned_left Φ (0 + 1 + 1) 4 (by decide),
    spanned_left Φ (0 + 1 + 1 + 1) 4 (by decide), spanned_none Φ (0 + 1 + 1 + 1 + 1) 4 (by decide)]
  exact congrArg (fun P => iprop(Φ 0 ∗ Φ 1 ∗ Φ 2 ∗ P)) (sep_emp_eq (Φ 3))
theorem first_six (Φ : ℕ → sProp 𝕄) : spanned Φ 0 6 = iprop(Φ 0 ∗ Φ 1 ∗ Φ 2 ∗ Φ 3 ∗ Φ 4 ∗ Φ 5) := by
  rw [first_five Φ 6 (by decide), spanned_left Φ 5 6 (by decide), spanned_none Φ (5 + 1) 6 (by decide)]
  exact congrArg (fun P => iprop(Φ 0 ∗ Φ 1 ∗ Φ 2 ∗ Φ 3 ∗ Φ 4 ∗ P)) (sep_emp_eq (Φ 5))
/-- and pieces numbered, one by one. -/
theorem fin_4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ
theorem fin_6 (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), (1 : Fin 6), (2 : Fin 6), (3 : Fin 6), (4 : Fin 6), (5 : Fin 6)] (by decide) (by decide) Φ
theorem fin_20 (Φ : Fin 20 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [(0 : Fin 20), (1 : Fin 20), (2 : Fin 20), (3 : Fin 20), (4 : Fin 20), (5 : Fin 20), (6 : Fin 20), (7 : Fin 20), (8 : Fin 20), (9 : Fin 20), (10 : Fin 20), (11 : Fin 20), (12 : Fin 20), (13 : Fin 20), (14 : Fin 20), (15 : Fin 20), (16 : Fin 20), (17 : Fin 20), (18 : Fin 20), (19 : Fin 20)] (by decide) (by decide) Φ
/-- Twenty blocks, taken by the two streams. -/
theorem paired (Φ : Fin 20 → sProp 𝕄) : bigSep Finset.univ Φ ⊢ spanned (fun p => iprop(Φ (Ring.bk 20 p) ∗ Φ (Ring.bk 20 (p + 10)))) 0 10 := by
  rw [fin_20, first_ten]
  iintro ⟨H0, H1, H2, H3, H4, H5, H6, H7, H8, H9, H10, H11, H12, H13, H14, H15, H16, H17, H18, H19⟩
  iframe
  repeat' (first | iempintro | isplitl [])
/-- and put together again. -/
theorem unpaired (Φ : Fin 20 → sProp 𝕄) : spanned (fun p => iprop(Φ (Ring.bk 20 p) ∗ Φ (Ring.bk 20 (p + 10)))) 0 10 ⊢ bigSep Finset.univ Φ := by
  rw [fin_20, first_ten]
  iintro ⟨⟨H0, H10⟩, ⟨H1, H11⟩, ⟨H2, H12⟩, ⟨H3, H13⟩, ⟨H4, H14⟩, ⟨H5, H15⟩, ⟨H6, H16⟩, ⟨H7, H17⟩, ⟨H8, H18⟩, ⟨H9, H19⟩⟩
  iframe
  repeat' (first | iempintro | isplitl [])

/-! ## The element sets -/

/-- The elements of a block of the operand, of an input slot, of an output slot. -/
abbrev BX (b : Fin 20) : Finset S100000x128.Idx := (Rect.unit (s := S100000x128) (blkOff b) S5000x128.size (blkOff_inb b)).set
abbrev BR (s : Fin 6) : Finset S6x5000x128.Idx := (Rect.unit (s := S6x5000x128) (rOff s) S1x5000x128.size (rOff_inb s)).set
abbrev BW (s : Fin 4) : Finset S4x5000x128.Idx := (Rect.unit (s := S4x5000x128) (wOff s) S1x5000x128.size (wOff_inb s)).set
/-- Each piece is held at these elements. -/
theorem set_xblk (b : Fin 20) : (xblk b).view.set = BX b := View.set_slice_whole _ _
theorem set_oblk (b : Fin 20) : (oblk b).view.set = BX b := View.set_slice_whole _ _
theorem set_rsA (s : Fin 6) : (rsA s).view.set = BR s := (View.set_reshape _ _).trans (View.set_slice_whole _ _)
theorem set_rsB (s : Fin 6) : (rsB s).view.set = BR s := (View.set_reshape _ _).trans (View.set_slice_whole _ _)
theorem set_wsA (s : Fin 4) : (wsA s).view.set = BW s := (View.set_reshape _ _).trans (View.set_slice_whole _ _)
theorem set_wsB (s : Fin 4) : (wsB s).view.set = BW s := (View.set_reshape _ _).trans (View.set_slice_whole _ _)
/-- The blocks of the operand are disjoint and make it up; so are the slots of each slot buffer. -/
theorem BX_disjoint : ∀ b b' : Fin 20, b ≠ b' → Disjoint (BX b) (BX b') :=
  Ring.lead_disjoint (s := S100000x128) (0 : Fin 2) 5000 blkOff S5000x128.size blkOff_inb (fun _ => rfl) rfl
theorem BX_cover : Finset.univ.biUnion BX = Finset.univ :=
  Ring.lead_cover (s := S100000x128) (0 : Fin 2) 5000 blkOff S5000x128.size blkOff_inb (fun _ => rfl) (by decide) rfl (by decide) (by decide)
theorem BR_disjoint : ∀ b b' : Fin 6, b ≠ b' → Disjoint (BR b) (BR b') :=
  Ring.lead_disjoint (s := S6x5000x128) (0 : Fin 3) 1 rOff S1x5000x128.size rOff_inb (fun b => (Nat.one_mul _).symm) rfl
theorem BR_cover : Finset.univ.biUnion BR = Finset.univ :=
  Ring.lead_cover (s := S6x5000x128) (0 : Fin 3) 1 rOff S1x5000x128.size rOff_inb (fun b => (Nat.one_mul _).symm) (by decide) rfl (by decide) (by decide)
theorem BW_disjoint : ∀ b b' : Fin 4, b ≠ b' → Disjoint (BW b) (BW b') :=
  Ring.lead_disjoint (s := S4x5000x128) (0 : Fin 3) 1 wOff S1x5000x128.size wOff_inb (fun b => (Nat.one_mul _).symm) rfl
theorem BW_cover : Finset.univ.biUnion BW = Finset.univ :=
  Ring.lead_cover (s := S4x5000x128) (0 : Fin 3) 1 wOff S1x5000x128.size wOff_inb (fun b => (Nat.one_mul _).symm) (by decide) rfl (by decide) (by decide)

section Split
variable (c : Dev nD)

/-- The operand whole is all its blocks, and the result whole is all of its own. -/
theorem home_split (X : Buf (Elt F) (xM.view.loc (c : Thread nD τ))) :
    (((c : Thread nD τ).loc main_arg0) ↦{fullShare} X : sProp 𝕄) = bigSep Finset.univ (homeP c X) := by
  rw [Ring.pointsTo_blocks (ℓ := (c : Thread nD τ).loc main_arg0) BX BX_disjoint BX_cover]
  exact bigSep_congr fun b _ => by rw [← set_xblk]; rfl
theorem res_split (X : Buf (Elt F) (oM.view.loc (c : Thread nD τ))) :
    (((c : Thread nD τ).loc main_v0) ↦{fullShare} X : sProp 𝕄) = bigSep Finset.univ (fun b => resP c b X) := by
  rw [Ring.pointsTo_blocks (ℓ := (c : Thread nD τ).loc main_v0) BX BX_disjoint BX_cover]
  exact bigSep_congr fun b _ => by rw [← set_oblk]; rfl
/-- The operand whole is its blocks, taken by the two streams; -/
theorem home_in (X : Buf (Elt F) (xM.view.loc (c : Thread nD τ))) :
    (((c : Thread nD τ).loc main_arg0) ↦{fullShare} X : sProp 𝕄) ⊢ spanned (homePair c X) 0 10 := by
  rw [home_split]; exact paired (homeP c X)
/-- and the other way about; -/
theorem home_out (X : Buf (Elt F) (xM.view.loc (c : Thread nD τ))) :
    (spanned (homePair c X) 0 10 : sProp 𝕄) ⊢ ((c : Thread nD τ).loc main_arg0) ↦{fullShare} X := by
  rw [home_split]; exact unpaired (homeP c X)
/-- so is the result, at anything; -/
theorem todo_in (X : Buf (Elt F) (oM.view.loc (c : Thread nD τ))) :
    (((c : Thread nD τ).loc main_v0) ↦{fullShare} X : sProp 𝕄) ⊢ spanned (todoPair c) 0 10 := by
  rw [res_split]
  refine BIBase.Entails.trans (bigSep_mono fun b _ => (show (resP c b X : sProp 𝕄) ⊢ iprop(∃ f, resP c b f) from by iintro H; iexists X; iexact H)) ?_
  exact paired (fun b => iprop(∃ f, resP (F := F) c b f))
/-- and the result's blocks, all at one contents, are the result at it. -/
theorem done_out (X : Buf (Elt F) (oM.view.loc (c : Thread nD τ))) :
    (spanned (donePair c X) 0 10 : sProp 𝕄) ⊢ ((c : Thread nD τ).loc main_v0) ↦{fullShare} X := by
  rw [res_split]; exact unpaired (fun b => resP c b X)

/-- A buffer at anything is its pieces, each at anything; -/
theorem slots_in {N : ℕ} {ℓ : Loc nD τ sig} (I : Fin N → Finset (Idx ℓ)) (hd : ∀ b b', b ≠ b' → Disjoint (I b) (I b'))
    (hc : Finset.univ.biUnion I = Finset.univ) (Ψ : Fin N → Buf (Elt F) ℓ → sProp 𝕄) (h : ∀ s f, Ψ s f = (ℓ ↦[I s]{fullShare} f)) :
    iprop(∃ f : Buf (Elt F) ℓ, ℓ ↦{fullShare} f) ⊢ (bigSep Finset.univ (fun s => iprop(∃ f, Ψ s f)) : sProp 𝕄) := by
  iintro ⟨%f, H⟩
  iapply (show (ℓ ↦{fullShare} f : sProp 𝕄) ⊢ bigSep Finset.univ (fun s => iprop(∃ f, Ψ s f)) from
    (entails_of_eq (Ring.pointsTo_blocks (ℓ := ℓ) I hd hc f)).trans (bigSep_mono fun s _ =>
      (show (ℓ ↦[I s]{fullShare} f : sProp 𝕄) ⊢ iprop(∃ f, Ψ s f) from by
        iintro H; iexists f; iapply (entails_of_eq (h s f).symm); iexact H)))
  iexact H
/-- and the pieces, each at anything, are the buffer at something. -/
theorem slots_out {N : ℕ} {ℓ : Loc nD τ sig} (I : Fin N → Finset (Idx ℓ)) (hd : ∀ b b', b ≠ b' → Disjoint (I b) (I b'))
    (hc : Finset.univ.biUnion I = Finset.univ) (Ψ : Fin N → Buf (Elt F) ℓ → sProp 𝕄) (h : ∀ s f, Ψ s f = (ℓ ↦[I s]{fullShare} f)) (f₀ : Buf (Elt F) ℓ) :
    (bigSep Finset.univ (fun s => iprop(∃ f, Ψ s f)) : sProp 𝕄) ⊢ iprop(∃ f : Buf (Elt F) ℓ, ℓ ↦{fullShare} f) := by
  refine BIBase.Entails.trans (bigSep_mono fun s _ => (show (iprop(∃ f, Ψ s f) : sProp 𝕄) ⊢ iprop(∃ f, ℓ ↦[I s]{fullShare} f) from by
    iintro ⟨%f, H⟩; iexists f; iapply (entails_of_eq (h s f)); iexact H)) ?_
  exact Ring.pointsTo_blocks_join_exists (ℓ := ℓ) I hd hc f₀
/-- A slot is held at its elements of its buffer. -/
theorem rA_eq (s : Fin 6) (f) : rslA c s f = (((c : Thread nD τ).loc cc0_scoped0) ↦[BR s]{fullShare} f : sProp 𝕄) :=
  congrArg (fun S => (((c : Thread nD τ).loc cc0_scoped0) ↦[S]{fullShare} f : sProp 𝕄)) (set_rsA s)
theorem rB_eq (s : Fin 6) (f) : rslB c s f = (((c : Thread nD τ).loc cc0_scoped2) ↦[BR s]{fullShare} f : sProp 𝕄) :=
  congrArg (fun S => (((c : Thread nD τ).loc cc0_scoped2) ↦[S]{fullShare} f : sProp 𝕄)) (set_rsB s)
theorem wA_eq (s : Fin 4) (f) : wslA c s f = (((c : Thread nD τ).loc cc0_scratch0) ↦[BW s]{fullShare} f : sProp 𝕄) :=
  congrArg (fun S => (((c : Thread nD τ).loc cc0_scratch0) ↦[S]{fullShare} f : sProp 𝕄)) (set_wsA s)
theorem wB_eq (s : Fin 4) (f) : wslB c s f = (((c : Thread nD τ).loc cc0_scratch1) ↦[BW s]{fullShare} f : sProp 𝕄) :=
  congrArg (fun S => (((c : Thread nD τ).loc cc0_scratch1) ↦[S]{fullShare} f : sProp 𝕄)) (set_wsB s)

/-- The semaphores at zero, one by one. -/
theorem ownSems_eq : (Pipeline.ownSems0 (Ix := Unit) (Name := ℕ) (U := UU nD τ) (Lvl := ℕ) (Val := Elt F) (τ := τ) osem c : sProp 𝕄)
    = iprop(cellP c (wc 0 0) ∗ cellP c (wc 0 1) ∗ cellP c (wc 0 2) ∗ cellP c (wc 0 3) ∗ cellP c (wc 1 0) ∗ cellP c (wc 1 1) ∗ cellP c (wc 1 2) ∗ cellP c (wc 1 3) ∗ cellP c (rcA 0) ∗ cellP c (rcA 1) ∗ cellP c (rcA 2) ∗ cellP c (rcA 3) ∗ cellP c (rcA 4) ∗ cellP c (rcA 5) ∗ cellP c (rcB 0) ∗ cellP c (rcB 1) ∗ cellP c (rcB 2) ∗ cellP c (rcB 3) ∗ cellP c (rcB 4) ∗ cellP c (rcB 5)) := by
  unfold Pipeline.ownSems0; rw [fin_20]; rfl
/-- The input slots and their semaphores, free; -/
theorem free_in : (iprop((bigSep Finset.univ (fun s => iprop(∃ f, rslA (F := F) c s f)) ∗ bigSep Finset.univ (fun s => iprop(∃ f, rslB (F := F) c s f)))
      ∗ bigSep Finset.univ (fun s => iprop(∃ f, wslA (F := F) c s f)) ∗ bigSep Finset.univ (fun s => iprop(∃ f, wslB (F := F) c s f))
      ∗ Pipeline.ownSems0 osem c) : sProp 𝕄) ⊢ iprop(spanned (freePair c) 0 6 ∗ spanned (freeOut c) 0 4) := by
  rw [fin_6, fin_6, fin_4, fin_4, ownSems_eq, first_six, first_four]
  unfold freePair freeOut
  iintro ⟨⟨⟨SA0, SA1, SA2, SA3, SA4, SA5⟩, ⟨SB0, SB1, SB2, SB3, SB4, SB5⟩⟩, ⟨WA0, WA1, WA2, WA3⟩, ⟨WB0, WB1, WB2, WB3⟩, P0, P1, P2, P3, Q0, Q1, Q2, Q3, A0, A1, A2, A3, A4, A5, B0, B1, B2, B3, B4, B5⟩
  iframe
  repeat' (first | iempintro | isplitl [])
/-- and the other way about. -/
theorem free_out : (iprop(spanned (freePair c) 0 6 ∗ spanned (freeOut c) 0 4) : sProp 𝕄)
    ⊢ iprop((bigSep Finset.univ (fun s => iprop(∃ f, rslA (F := F) c s f)) ∗ bigSep Finset.univ (fun s => iprop(∃ f, rslB (F := F) c s f)))
      ∗ bigSep Finset.univ (fun s => iprop(∃ f, wslA (F := F) c s f)) ∗ bigSep Finset.univ (fun s => iprop(∃ f, wslB (F := F) c s f))
      ∗ Pipeline.ownSems0 osem c) := by
  rw [fin_6, fin_6, fin_4, fin_4, ownSems_eq, first_six, first_four]
  unfold freePair freeOut
  iintro ⟨⟨⟨⟨A0, SA0⟩, ⟨B0, SB0⟩⟩, ⟨⟨A1, SA1⟩, ⟨B1, SB1⟩⟩, ⟨⟨A2, SA2⟩, ⟨B2, SB2⟩⟩, ⟨⟨A3, SA3⟩, ⟨B3, SB3⟩⟩, ⟨⟨A4, SA4⟩, ⟨B4, SB4⟩⟩, ⟨⟨A5, SA5⟩, ⟨B5, SB5⟩⟩⟩, ⟨⟨P0, WA0⟩, ⟨Q0, WB0⟩⟩, ⟨⟨P1, WA1⟩, ⟨Q1, WB1⟩⟩, ⟨⟨P2, WA2⟩, ⟨Q2, WB2⟩⟩, ⟨⟨P3, WA3⟩, ⟨Q3, WB3⟩⟩⟩
  iframe
  repeat' (first | iempintro | isplitl [])

end Split

/-! ## The proof data -/

section Launch
variable (m : (ℓ : Loc nD τ sig) → Buf (Elt F) ℓ) (ρ : Dev nD → PrngReg)

/-- The operand as launched. -/
abbrev XA (c : Dev nD) : Buf (Elt F) (xM.view.loc (c : Thread nD τ)) := V m c main_arg0
/-- The staged first weights, first bias, second weights, second bias. -/
abbrev sg0 (t : Fin cfg0.N) : Memref sig .tc .vmem S128x256 .f32 := win0_0.stage (cfg0.slots t 0)
abbrev sg1 (t : Fin cfg0.N) : Memref sig .tc .vmem S1x256 .f32 := win0_1.stage (cfg0.slots t 1)
abbrev sg2 (t : Fin cfg0.N) : Memref sig .tc .vmem S256x128 .f32 := win0_2.stage (cfg0.slots t 2)
abbrev sg3 (t : Fin cfg0.N) : Memref sig .tc .vmem S1x128 .f32 := win0_3.stage (cfg0.slots t 3)

/-- What the result holds at the end: the kernel's block values at the staged weights and biases. -/
def resAt (c : Dev nD) (t : Fin cfg0.N) : Buf (Elt F) (oM.view.loc (c : Thread nD τ)) :=
  OUT c (XA m c) (sg0 t) ((sg0 t).view.rep (iblk m c 0 t)) (u1 c (sg2 t) ((sg2 t).view.rep (iblk m c 2 t)))
    (u3 c (sg1 t) ((sg1 t).view.rep (iblk m c 1 t))) (u5 c (sg3 t) ((sg3 t).view.rep (iblk m c 3 t)))

/-- The result's blocks: at anything before the point, at their contents after it. -/
def resPart (c : Dev nD) (k : Fin (cfg0.N + 1)) : sProp 𝕄 :=
  if k = 0 then spanned (todoPair c) 0 10 else spanned (donePair c (resAt m c t0_0)) 0 10
/-- What the point holds beside the staged blocks. -/
def Φ (c : Dev nD) (k : Fin (cfg0.N + 1)) : sProp 𝕄 :=
  iprop(spanned (homePair c (XA m c)) 0 10 ∗ spanned (freePair c) 0 6 ∗ spanned (freeOut c) 0 4 ∗ resPart m c k ∗ ∃ r, prngReg c r)

/-- What the windows hold and what the point holds beside them: every window's block stays in place. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ k := Φ m c k
  q _ := fullShare
  owed _ := 0

/-- The body finds each window's block staged, and leaves it there. -/
theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]

/-- The kernel's body at the staged buffers. -/
theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) := rfl
theorem prog_eq (t : Fin cfg0.N) : (defs₀ (F := F)) .tc cfg0.body (cfg0.bodyArgs t (cfg0.slots t))
    = bodyG (sg0 t) (hstage0_0 0) (sg1 t) (hstage0_1 0) (sg2 t) (hstage0_2 0) (sg3 t) (hstage0_3 0) :=
  (congrFun defs_tc _).trans rfl

set_option backward.isDefEq.respectTransparency.types false in
/-- The kernel's body at the point. -/
theorem body_obligation (c : Dev nD) : BodyObligation (dats (F := F) m 0 c) (defs₀ (F := F)) 𝒱₀ () Set.univ := fun t => by
  rw [bigSep_W0, bigSep_W0]
  dsimp only
  simp only [before_w0, before_w1, before_w2, before_w3, after_w0, after_w1, after_w2, after_w3]
  obtain rfl := fin_N0 t
  rw [show (dats m 0 c).Φ t0_0.castSucc = Φ m c 0 from rfl, show (dats m 0 c).Φ t0_0.succ = Φ m c 1 from rfl]
  unfold Dat.owesAt Pipeline.owesWithin
  rw [show (dats m 0 c).owed t0_0.castSucc = 0 from rfl, show (dats m 0 c).owed t0_0.succ = 0 from rfl]
  unfold owns Φ resPart
  rw [if_pos rfl, if_neg (by decide)]
  iintro ⟨⟨H, F, O, T, R⟩, ⟨%W, -, HW⟩, ⟨%d0, %g0, %h0, G0⟩, ⟨%d1, %g1, %h1, G1⟩, ⟨%d2, %g2, %h2, G2⟩, ⟨%d3, %g3, %h3, G3⟩⟩
  ihave A0 := (pointsTo_rep_entails (c : Thread nD τ) (sg0 t0_0) g0 fullShare) $$ G0
  ihave A1 := (pointsTo_rep_entails (c : Thread nD τ) (sg1 t0_0) g1 fullShare) $$ G1
  ihave A2 := (pointsTo_rep_entails (c : Thread nD τ) (sg2 t0_0) g2 fullShare) $$ G2
  ihave A3 := (pointsTo_rep_entails (c : Thread nD τ) (sg3 t0_0) g3 fullShare) $$ G3
  rw [h0, h1, h2, h3]
  sl_rw [prog_eq t0_0]
  iapply (bodyRun c (XA m c) (sg0 t0_0) (hstage0_0 0) (sg1 t0_0) (hstage0_1 0) (sg2 t0_0) (hstage0_2 0) (sg3 t0_0) (hstage0_3 0) _ _ _ _ W)
  isplitr [R]
  · isplitl [A0 A1 A2 A3]
    · isplitl [A0]; · iexact A0
      isplitl [A1]; · iexact A1
      isplitl [A2]; · iexact A2
      iexact A3
    isplitl [HW]; · iexact HW
    isplitl [H]; · iexact H
    isplitl [F]; · iexact F
    isplitl [O]; · iexact O
    iexact T
  · unfold bodyPost
    iintro ⟨⟨A0, A1, A2, A3⟩, ⟨%W', HW⟩, H, F, O, D⟩
    isplitl [H F O D R]
    · isplitl [H]; · iexact H
      isplitl [F]; · iexact F
      isplitl [O]; · iexact O
      isplitl [D]; · iexact D
      iexact R
    isplitl [HW]
    · iexists W'; isplitr; · ipureintro; exact fun _ _ => Or.inl trivial
      iexact HW
    isplitl [A0]
    · iexists _; isplitr; · ipureintro; exact View.read_rep _ _
      iexact A0
    isplitl [A1]
    · iexists _; isplitr; · ipureintro; exact View.read_rep _ _
      iexact A1
    isplitl [A2]
    · iexists _; isplitr; · ipureintro; exact View.read_rep _ _
      iexact A2
    iexists _; isplitr; · ipureintro; exact View.read_rep _ _
    iexact A3

/-! ## The run -/

/-- The whole program is its host operations, then the kernel. -/
theorem hmain : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

/-- The buffers that are neither staged nor left alone: the operand and the result. -/
abbrev moved : Finset (Ref sig .tc) := {main_arg0, main_v0}
/-- The buffers' contents at the end. -/
abbrev final (c : Dev nD) : (b : Ref sig .tc) → Buf (Elt F) ((c : Thread nD τ).loc b) := Function.update (V m c) main_v0 (resAt m c t0_0)
/-- Those two buffers, one by one. -/
theorem moved_eq (c : Dev nD) (W : (b : Ref sig .tc) → Buf (Elt F) ((c : Thread nD τ).loc b)) :
    (Pipeline.routed moved c W : sProp 𝕄) = iprop((((c : Thread nD τ).loc main_arg0) ↦{fullShare} W main_arg0) ∗ (((c : Thread nD τ).loc main_v0) ↦{fullShare} W main_v0)) := by
  unfold Pipeline.routed; rw [BI.bigSep_eq_bigSepL_of_eq [main_arg0, main_v0] (by decide) (by decide)]; rfl

/-- What the launch hands over is what the point starts from, -/
theorem enter (c : Dev nD) : (Pipeline.Ends spec0 osem moved c (V m c) : sProp 𝕄) ⊢ Φ m c 0 := by
  unfold Pipeline.Ends Φ resPart
  rw [if_pos rfl, scopedRest0_eq, moved_eq]
  iintro ⟨⟨X, O⟩, S, ⟨WA, WB, RA, RB⟩, R⟩
  ihave X' := (home_in c (XA m c)) $$ X
  ihave O' := (todo_in c (V m c main_v0)) $$ O
  ihave RA' := (slots_in (ℓ := (c : Thread nD τ).loc cc0_scoped0) BR BR_disjoint BR_cover (fun s f => rslA c s f) (rA_eq c)) $$ RA
  ihave RB' := (slots_in (ℓ := (c : Thread nD τ).loc cc0_scoped2) BR BR_disjoint BR_cover (fun s f => rslB c s f) (rB_eq c)) $$ RB
  ihave WA' := (slots_in (ℓ := (c : Thread nD τ).loc cc0_scratch0) BW BW_disjoint BW_cover (fun s f => wslA c s f) (wA_eq c)) $$ WA
  ihave WB' := (slots_in (ℓ := (c : Thread nD τ).loc cc0_scratch1) BW BW_disjoint BW_cover (fun s f => wslB c s f) (wB_eq c)) $$ WB
  ihave FF := (free_in c) $$ [S RA' RB' WA' WB']
  · isplitl [RA' RB']
    · isplitl [RA']; · iexact RA'
      iexact RB'
    isplitl [WA']; · iexact WA'
    isplitl [WB']; · iexact WB'
    iexact S
  icases FF with ⟨F, G⟩
  isplitl [X']; · iexact X'
  isplitl [F]; · iexact F
  isplitl [G]; · iexact G
  isplitl [O']; · iexact O'
  iexact R
/-- and what the point ends with is what the launch takes back. -/
theorem leave (c : Dev nD) : (Φ m c (Fin.last cfg0.N) : sProp 𝕄) ⊢ Pipeline.Ends spec0 osem moved c (final m c) := by
  unfold Pipeline.Ends Φ resPart
  rw [if_neg (by decide), scopedRest0_eq, moved_eq, show final m c main_v0 = resAt m c t0_0 from Function.update_self _ _ _,
    show final m c main_arg0 = XA m c from Function.update_of_ne (by decide) _ _]
  iintro ⟨X, F, G, O, R⟩
  ihave X' := (home_out c (XA m c)) $$ X
  ihave O' := (done_out c (resAt m c t0_0)) $$ O
  ihave FF := (free_out c) $$ [F G]
  · isplitl [F]; · iexact F
    iexact G
  icases FF with ⟨⟨RA, RB⟩, WA, WB, S⟩
  ihave RA' := (slots_out (ℓ := (c : Thread nD τ).loc cc0_scoped0) BR BR_disjoint BR_cover (fun s f => rslA c s f) (rA_eq c) (fun _ => default)) $$ RA
  ihave RB' := (slots_out (ℓ := (c : Thread nD τ).loc cc0_scoped2) BR BR_disjoint BR_cover (fun s f => rslB c s f) (rB_eq c) (fun _ => default)) $$ RB
  ihave WA' := (slots_out (ℓ := (c : Thread nD τ).loc cc0_scratch0) BW BW_disjoint BW_cover (fun s f => wslA c s f) (wA_eq c) (fun _ => default)) $$ WA
  ihave WB' := (slots_out (ℓ := (c : Thread nD τ).loc cc0_scratch1) BW BW_disjoint BW_cover (fun s f => wslB c s f) (wB_eq c) (fun _ => default)) $$ WB
  isplitl [X' O']
  · isplitl [X']; · iexact X'
    iexact O'
  isplitl [S]; · iexact S
  isplitl [RA' RB' WA' WB']
  · isplitl [WA']; · iexact WA'
    isplitl [WB']; · iexact WB'
    isplitl [RA']; · iexact RA'
    iexact RB'
  iexact R

/-- What a run ends with: the arguments as launched, the result at `resAt`, every semaphore at zero. -/
def Ran (r : PUnit × MemSt nD τ sig (Elt F)) : Prop :=
  (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.mem ((c.tc : Thread nD τ).loc main_v0) = resAt m c t0_0)
  ∧ r.2.sem = fun _ => 0

/-- Every run of the program ends, with the arguments as launched, the result at `resAt`, every semaphore at zero. -/
theorem run_main : θ_run defs (onTc (τ := τ) (main (F := F))) (s₀ m ρ) (Ran m) :=
  Pipeline.θ_run_frame_routed cfgs (dats m) (0 : Fin 1) launch0 ownSemFacts defs₀ 𝒱₀ m ρ main
    (hbody := fun c => (body_obligation m c).loose) (hshare := fun c => (dats m 0 c).share_full fun _ => rfl)
    (howed := fun _ _ => rfl) (V := V m) (hmain := hmain m) (hA := fun _ _ => rfl)
    (R := moved) (hR := by decide) (Y := final m) (hin := enter m) (hout := leave m) (Q' := Ran m)
    (hQ' := fun r h => ⟨fun c => ⟨⟨
        ((h.1 c).2.1 main_arg0 (by decide)).trans ((Function.update_of_ne (by decide) _ _).trans (V_main_arg0 m c)),
        ((h.1 c).1 0).trans (((dats m 0 c).arrAt_in 0 rfl _).trans (V_main_arg1 m c)),
        ((h.1 c).2.2 main_arg2 (Finset.mem_sdiff.mpr ⟨Pipeline.mem_restRefs_of main_arg2 (by decide) (by decide), by decide⟩)).trans (V_main_arg2 m c),
        ((h.1 c).1 2).trans (((dats m 0 c).arrAt_in 2 rfl _).trans (V_main_arg3 m c)),
        ((h.1 c).2.2 main_arg4 (Finset.mem_sdiff.mpr ⟨Pipeline.mem_restRefs_of main_arg4 (by decide) (by decide), by decide⟩)).trans (V_main_arg4 m c)⟩,
        ((h.1 c).2.1 main_v0 (by decide)).trans (Function.update_self _ _ _)⟩, h.2⟩)

end Launch

end Cert.Proof.Mlp

end
-- ==== Proof.Value.lean ====
/-
  What the kernel computes, at the extended reals: each row of its result is the perceptron of the operand's row.
-/
module

public import proofs.«01_k».proof.Proof.Launch
public import Idealize.ShloMosaic.Lib.Pointwise
public import Idealize.ShloMosaic.Lib.Claim
public import Idealize.ShloMosaic.Lib.Pipeline.ValueKit

@[expose] public section

noncomputable section

namespace Cert.Proof.Mlp

open Cert.KernelIdeal Cert.KernelIdeal.Gen
open Idealize.ShloMosaic
open Idealize.ShloMosaic.TcCoe Idealize.ShloMosaic.Tactic
open Idealize.ShloMosaic.Pipeline (Dat BodyObligation)

/-- Row `i`, column `j` of the perceptron. -/
def mlp (x : S100000x128.Idx → Ideal .f32) (W1 : S128x256.Idx → Ideal .f32) (b1 : S256.Idx → Ideal .f32)
    (W2 : S256x128.Idx → Ideal .f32) (b2 : S128.Idx → Ideal .f32) (i : S100000x128.Idx) : Ideal .f32 :=
  (∑ k : Fin 256, max ((∑ l : Fin 128, x (ix2 (i 0) l) * W1 (ix2 l k)) + b1 (ix1 k)) 0 * W2 (ix2 k (i 1))) + b2 (ix1 (i 1))

/-- The kernel's block payload at a row and a column. -/
theorem pay1_row (v1 : FVec Ideal S256x128 .bf16) (v3 : FVec Ideal S1x256 .f32) (v5 : FVec Ideal S1x128 .f32) (w : Vec Ideal S1x5000x128 .f32) (w1 : Vec Ideal S128x256 .f32)
    (y : S5000x128.Idx) :
    k0_pay1 v1 v3 v5 w w1 (Shape.reshapeEquiv numel_slot y)
      = (∑ k : Fin 256, max ((∑ l : Fin 128, w (ix3 (0 : Fin 1) (y 0) l) * w1 (ix2 l k)) + v3 (ix2 (0 : Fin 1) k)) 0 * v1 (ix2 k (y 1))) + v5 (ix2 (0 : Fin 1) (y 1)) := by
  pointwise [k0_pay1]

section
variable (m : (ℓ : Loc nD τ sig) → Buf (Elt Ideal) ℓ) (c : Dev nD)

/-- Every window's block is its array. -/
theorem index_0 (a) : win0_0.index t0_0 a = 0 := by fin_cases a <;> rfl
theorem index_1 (a) : win0_1.index t0_0 a = 0 := by fin_cases a <;> rfl
theorem index_2 (a) : win0_2.index t0_0 a = 0 := by fin_cases a <;> rfl
theorem index_3 (a) : win0_3.index t0_0 a = 0 := by fin_cases a <;> rfl
/-- The staged blocks: the weights as launched, the biases as launched with a leading unit axis. -/
theorem iblk_0 : iblk m c 0 t0_0 = m ((c : Thread nD τ).loc main_arg1) := by
  funext y; blk_ext! [iblk, V, index_0]
theorem iblk_2 : iblk m c 2 t0_0 = m ((c : Thread nD τ).loc main_arg3) := by
  funext y; blk_ext! [iblk, V, index_2]
theorem iblk_1 (k : Fin 256) : iblk m c 1 t0_0 (ix2 (0 : Fin 1) k) = m ((c : Thread nD τ).loc main_arg2) (ix1 k) := by
  blk_simp [iblk, V, index_1]; entry_read; pointwise; blk_ext [index_1]
theorem iblk_3 (k : Fin 128) : iblk m c 3 t0_0 (ix2 (0 : Fin 1) k) = m ((c : Thread nD τ).loc main_arg4) (ix1 k) := by
  blk_simp [iblk, V, index_3]; entry_read; pointwise; blk_ext [index_3]

/-- Row `r` of block `b` of the operand, as a slot shows it, is row `5000 b + r` of the operand. -/
theorem lifted_row (X : Buf (Elt Ideal) (xM.view.loc (c : Thread nD τ))) (b : Fin 20) (r : Fin 5000) (l : Fin 128) :
    lifted c X b (ix3 (0 : Fin 1) r l) = X (rowAt b (ix2 r l)) := by
  have e : Shape.reshapeEquiv numel_slot.symm (ix3 (0 : Fin 1) r l) = ix2 r l := by pointwise
  unfold lifted payload
  rw [e]
  exact congrArg X (emb_oblk b (ix2 r l))

/-- Rounding the second weights and recasting the biases change nothing. -/
theorem pay3_at (v : Vec Ideal S256x128 .f32) (y : S256x128.Idx) : k0_pay3 v y = v y := rfl
theorem pay4_at (v : Vec Ideal S1x256 .f32) (y : S1x256.Idx) : k0_pay4 v y = v y := by pointwise [k0_pay4]
theorem pay5_at (v : Vec Ideal S1x128 .f32) (y : S1x128.Idx) : k0_pay5 v y = v y := by pointwise [k0_pay5]
/-- Row `i` is row `i % 5000` of block `i / 5000`. -/
theorem row_of (i : Fin 100000) (l : Fin 128) (h : i.val / 5000 < 20) (h' : i.val % 5000 < 5000) :
    rowAt ⟨i.val / 5000, h⟩ (ix2 (⟨i.val % 5000, h'⟩ : Fin 5000) l) = ix2 i l := by
  refine funext fun a : Fin 2 => Fin.ext ?_
  fin_cases a
  · show 5000 * (i.val / 5000) + i.val % 5000 = i.val; omega
  · rfl

/-- The result of the kernel is the perceptron of its operands. -/
theorem kernel_value : resAt m c t0_0
    = mlp (m ((c : Thread nD τ).loc main_arg0)) (m ((c : Thread nD τ).loc main_arg1)) (m ((c : Thread nD τ).loc main_arg2))
        (m ((c : Thread nD τ).loc main_arg3)) (m ((c : Thread nD τ).loc main_arg4)) := by
  funext i
  unfold resAt OUT outVal outAt blkVal
  rw [pay1_row]
  unfold loadW u1 u3 u5
  rw [View.readAt_rep_full, View.readAt_rep_full, View.readAt_rep_full, View.readAt_rep_full]
  simp only [lifted_row, pay3_at, pay4_at, pay5_at, iblk_1, iblk_3, iblk_0, iblk_2]
  rw [show XA m c = m ((c : Thread nD τ).loc main_arg0) from V_main_arg0 m c]
  unfold mlp
  reads_congr
  · exact congrArg _ (row_of (i 0) _ _ _)
  · exact rfl
  · exact iblk_3 m c (i 1)
end

end Cert.Proof.Mlp

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Same
public import proofs.«01_k».proof.Proof.Value
public import Idealize.ShloMosaic.Lib.Claim
public import Idealize.ShloMosaic.Lib.Quiescent

@[expose] public section

namespace Cert.Proof

open Idealize.ShloMosaic Idealize.SL.Sem

/-- The kernel as written: it runs, leaves its arguments alone and every semaphore at zero. -/
theorem quiescent_kernel : Cert.quiescent_Kernel (hKernel := Cert.Kernel.Gen.facts) := fun m g _ => by
  refine @Mlp.run_same Bits _ Cert.Kernel.Gen.facts Cert.KernelIdeal.Gen.facts _ _ ?_
  exact θ_run_mono (Mlp.run_main (F := Bits) m g) fun r h => ⟨fun c => (h.1 c).1, h.2⟩
/-- The same at the extended reals. -/
theorem quiescent_kernel_ideal : Cert.quiescent_KernelIdeal (hKernelIdeal := Cert.KernelIdeal.Gen.facts) := fun m g _ =>
  θ_run_mono (Mlp.run_main (F := Ideal) m g) fun r h => ⟨fun c => (h.1 c).1, h.2⟩
/-- The reference too. -/
theorem quiescent_reference : Cert.quiescent_ReferenceIdeal (hReferenceIdeal := Cert.ReferenceIdeal.Gen.facts) := fun m g _ => by
  hlo_run
  · exact fun _ => ⟨trivial, trivial, trivial, trivial, trivial⟩
  · exact sem_eq_zero_of_no_sems (by decide) _
open Cert.ReferenceIdeal Cert.ReferenceIdeal.Gen in
/-- What the reference computes is the perceptron of its operands. -/
theorem reference_value (x : FVec Ideal S100000x128 .f32) (W1 : FVec Ideal S128x256 .f32) (b1 : FVec Ideal S256 .f32)
    (W2 : FVec Ideal S256x128 .f32) (b2 : FVec Ideal S128 .f32) :
    addf (Host.dotGeneral dot_S100000x256_S256x128_S100000x128_1_0_0_1_n_n none
        (maximumf (addf (Host.dotGeneral dot_S100000x128_S128x256_S100000x256_1_0_0_1_n_n none x W1)
            (broadcastInDim S100000x256 ![0, 1] bcast_S1x256_S100000x256_0_1 (broadcastInDim S1x256 ![1] bcast_S256_S1x256_1 b1)))
          (broadcastInDim S100000x256 ![] bcast_S_S100000x256 (constant (F := Ideal) S_ .f32 0#32))) W2)
      (broadcastInDim S100000x128 ![0, 1] bcast_S1x128_S100000x128_0_1 (broadcastInDim S1x128 ![1] bcast_S128_S1x128_1 b2))
      = Mlp.mlp x W1 b1 W2 b2 := by
  funext i
  pointwise [Mlp.mlp]
/-- At the extended reals the kernel's result is the reference's. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => Mlp.resAt m c Cert.KernelIdeal.Gen.t0_0, θ_run_mono (Mlp.run_main (F := Ideal) m g) fun r h c => ⟨(h.1 c).2, (h.1 c).1⟩, ?_⟩
  hlo_run
  refine Eq.trans ?_ (Mlp.kernel_value m c).symm
  exact reference_value _ _ _ _ _

theorem claim : Cert.Claim :=
  ⟨Cert.Kernel.Gen.facts, Cert.KernelIdeal.Gen.facts, Cert.ReferenceIdeal.Gen.facts, quiescent_kernel, quiescent_kernel_ideal,
    quiescent_reference, trivial, algebraic⟩

end Cert.Proof
